-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x1024 : Shape := ⟨3, ![8, 4096, 1024]⟩
abbrev S4x8x256x1024 : Shape := ⟨4, ![4, 8, 256, 1024]⟩
abbrev S1024x3600 : Shape := ⟨2, ![1024, 3600]⟩
abbrev S16x512 : Shape := ⟨2, ![16, 512]⟩
abbrev S512 : Shape := ⟨1, ![512]⟩
abbrev S256 : Shape := ⟨1, ![256]⟩
abbrev S2x1536x1024 : Shape := ⟨3, ![2, 1536, 1024]⟩
abbrev S1024 : Shape := ⟨1, ![1024]⟩
abbrev S1024x512 : Shape := ⟨2, ![1024, 512]⟩
abbrev S1x8x256x512 : Shape := ⟨4, ![1, 8, 256, 512]⟩
abbrev S8x256x512 : Shape := ⟨3, ![8, 256, 512]⟩
abbrev S_ : Shape := ⟨0, ![]⟩

class Facts : Prop where
  slices_S1024x3600_S1024x512_0_3088 : S1024x3600.Slices ![0, 3088] S1024x512
  slices_S4x8x256x1024_S1x8x256x512_0_0_0_0 : S4x8x256x1024.Slices ![0, 0, 0, 0] S1x8x256x512
  shapeCasts_S1x8x256x512_S8x256x512 : S1x8x256x512.ShapeCasts S8x256x512
  bitsLt_bf16_f32 : FTy.bits .bf16 < FTy.bits .f32
  bcast_S_S8x4096x1024 : S_.BroadcastsInDim S8x4096x1024 (![] : Fin 0 → Fin S8x4096x1024.rank)
  bcast_S_S1024x512 : S_.BroadcastsInDim S1024x512 (![] : Fin 0 → Fin S1024x512.rank)
  bcast_S_S8x256x512 : S_.BroadcastsInDim S8x256x512 (![] : Fin 0 → Fin S8x256x512.rank)

variable [Facts]

def fn {F : FTy → Type} [FloatOps F] (main_arg0 : FVec F S8x4096x1024 .f32) (main_arg1 : FVec F S4x8x256x1024 .bf16) (main_arg2 : FVec F S1024x3600 .f32) (main_arg3 : FVec F S16x512 .f32) (main_arg4 : FVec F S512 .f32) (main_arg5 : FVec F S256 .f32) (main_arg6 : FVec F S2x1536x1024 .f32) (main_arg7 : FVec F S1024 .f32) (main_arg8 : FVec F S1024 .f32) : IVec S8x4096x1024 1 × IVec S1024x512 1 × IVec S8x256x512 1 :=
  let main_v0 : FVec F S1024x512 .f32 := (extractStridedSlice S1024x512 ![0, 3088] · slices_S1024x3600_S1024x512_0_3088) main_arg2
  let main_v1 : FVec F S1x8x256x512 .bf16 := (extractStridedSlice S1x8x256x512 ![0, 0, 0, 0] · slices_S4x8x256x1024_S1x8x256x512_0_0_0_0) main_arg1
  let main_v2 : FVec F S8x256x512 .bf16 := shapeCast S8x256x512 main_v1 shapeCasts_S1x8x256x512_S8x256x512
  let main_v3 : FVec F S8x256x512 .f32 := (extf .f32 · bitsLt_bf16_f32) main_v2
  let main_v4 : FVec F S8x4096x1024 .f32 := Host.absf main_arg0
  let main_cst : FVec F S_ .f32 := constant S_ .f32 0x7F800000#32
  let main_v5 : FVec F S8x4096x1024 .f32 := broadcastInDim S8x4096x1024 ![] bcast_S_S8x4096x1024 main_cst
  let main_v6 : IVec S8x4096x1024 1 := cmpf .olt main_v4 main_v5
  let main_v7 : FVec F S1024x512 .f32 := Host.absf main_v0
  let main_cst_0 : FVec F S_ .f32 := constant S_ .f32 0x7F800000#32
  let main_v8 : FVec F S1024x512 .f32 := broadcastInDim S1024x512 ![] bcast_S_S1024x512 main_cst_0
  let main_v9 : IVec S1024x512 1 := cmpf .olt main_v7 main_v8
  let main_v10 : FVec F S8x256x512 .f32 := Host.absf main_v3
  let main_cst_1 : FVec F S_ .f32 := constant S_ .f32 0x7F800000#32
  let main_v11 : FVec F S8x256x512 .f32 := broadcastInDim S8x256x512 ![] bcast_S_S8x256x512 main_cst_1
  let main_v12 : IVec S8x256x512 1 := cmpf .olt main_v10 main_v11
  (main_v6, main_v9, main_v12)
-- ==== Kernel.lean ====
abbrev S8x4096x1024 : Shape := ⟨3, ![8, 4096, 1024]⟩
abbrev S4x8x256x1024 : Shape := ⟨4, ![4, 8, 256, 1024]⟩
abbrev S1024x3600 : Shape := ⟨2, ![1024, 3600]⟩
abbrev S16x512 : Shape := ⟨2, ![16, 512]⟩
abbrev S512 : Shape := ⟨1, ![512]⟩
abbrev S256 : Shape := ⟨1, ![256]⟩
abbrev S2x1536x1024 : Shape := ⟨3, ![2, 1536, 1024]⟩
abbrev S1024 : Shape := ⟨1, ![1024]⟩
abbrev S1024x3072 : Shape := ⟨2, ![1024, 3072]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x3712 : Shape := ⟨2, ![1024, 3712]⟩
abbrev S128x512 : Shape := ⟨2, ![128, 512]⟩
abbrev S1x512 : Shape := ⟨2, ![1, 512]⟩
abbrev S1x256 : Shape := ⟨2, ![1, 256]⟩
abbrev S1x1024 : Shape := ⟨2, ![1, 1024]⟩
abbrev S1x512x1024 : Shape := ⟨3, ![1, 512, 1024]⟩
abbrev S1x1x256x1024 : Shape := ⟨4, ![1, 1, 256, 1024]⟩
abbrev S1x1536x1024 : Shape := ⟨3, ![1, 1536, 1024]⟩
abbrev S4x128x256 : Shape := ⟨3, ![4, 128, 256]⟩
abbrev S512x3712 : Shape := ⟨2, ![512, 3712]⟩
abbrev S512x1024 : Shape := ⟨2, ![512, 1024]⟩
abbrev S512x128 : Shape := ⟨2, ![512, 128]⟩
abbrev S512x512 : Shape := ⟨2, ![512, 512]⟩
abbrev S64x512 : Shape := ⟨2, ![64, 512]⟩
abbrev S8x512 : Shape := ⟨2, ![8, 512]⟩
abbrev S512x8 : Shape := ⟨2, ![512, 8]⟩
abbrev S64x64 : Shape := ⟨2, ![64, 64]⟩
abbrev S64x256 : Shape := ⟨2, ![64, 256]⟩
abbrev S64x128 : Shape := ⟨2, ![64, 128]⟩
abbrev S128x64 : Shape := ⟨2, ![128, 64]⟩
abbrev S128x256 : Shape := ⟨2, ![128, 256]⟩
abbrev S1x128x256 : Shape := ⟨3, ![1, 128, 256]⟩
abbrev S128x1 : Shape := ⟨2, ![128, 1]⟩
abbrev S512x256 : Shape := ⟨2, ![512, 256]⟩
abbrev S512x1 : Shape := ⟨2, ![512, 1]⟩
abbrev S1x1x256x128 : Shape := ⟨4, ![1, 1, 256, 128]⟩
abbrev S256x128 : Shape := ⟨2, ![256, 128]⟩
abbrev S512x1536 : Shape := ⟨2, ![512, 1536]⟩
abbrev S1536x1024 : Shape := ⟨2, ![1536, 1024]⟩

abbrev nBuf : Space → Nat
  | .hbm => 27
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S4x8x256x1024, .bf16⟩
  | .hbm, ⟨2, _⟩ => ⟨S1024x3600, .f32⟩
  | .hbm, ⟨3, _⟩ => ⟨S16x512, .f32⟩
  | .hbm, ⟨4, _⟩ => ⟨S512, .f32⟩
  | .hbm, ⟨5, _⟩ => ⟨S256, .f32⟩
  | .hbm, ⟨6, _⟩ => ⟨S2x1536x1024, .f32⟩
  | .hbm, ⟨7, _⟩ => ⟨S1024, .f32⟩
  | .hbm, ⟨8, _⟩ => ⟨S1024, .f32⟩
  | .hbm, ⟨9, _⟩ => ⟨S2x1536x1024, .bf16⟩
  | .hbm, ⟨10, _⟩ => ⟨S1024x3072, .f32⟩
  | .hbm, ⟨11, _⟩ => ⟨S1024x512, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x3712, .f32⟩
  | .hbm, ⟨17, _⟩ => ⟨S1024x3712, .bf16⟩
  | .hbm, ⟨18, _⟩ => ⟨S_, .i32⟩
  | .hbm, ⟨19, _⟩ => ⟨S_, .f32⟩
  | .hbm, ⟨20, _⟩ => ⟨S128x512, .f32⟩
  | .hbm, ⟨21, _⟩ => ⟨S128x512, .bf16⟩
  | .hbm, ⟨22, _⟩ => ⟨S1x512, .f32⟩
  | .hbm, ⟨23, _⟩ => ⟨S1x256, .f32⟩
  | .hbm, ⟨24, _⟩ => ⟨S1x1024, .f32⟩
  | .hbm, ⟨25, _⟩ => ⟨S1x1024, .f32⟩
  | .hbm, ⟨26, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3712, .bf16⟩
  | .local _ .vmem, ⟨3, _⟩ => ⟨S128x512, .bf16⟩
  | .local _ .vmem, ⟨4, _⟩ => ⟨S1x512, .f32⟩
  | .local _ .vmem, ⟨5, _⟩ => ⟨S1x256, .f32⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1536x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S4x128x256, .f32⟩
  | .local _ .vmem, ⟨14, _⟩ => ⟨S512x3712, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x1024 : Shape := ⟨3, ![8, 4096, 1024]⟩
abbrev S4x8x256x1024 : Shape := ⟨4, ![4, 8, 256, 1024]⟩
abbrev S1024x3600 : Shape := ⟨2, ![1024, 3600]⟩
abbrev S16x512 : Shape := ⟨2, ![16, 512]⟩
abbrev S512 : Shape := ⟨1, ![512]⟩
abbrev S256 : Shape := ⟨1, ![256]⟩
abbrev S2x1536x1024 : Shape := ⟨3, ![2, 1536, 1024]⟩
abbrev S1024 : Shape := ⟨1, ![1024]⟩
abbrev S1024x512 : Shape := ⟨2, ![1024, 512]⟩
abbrev S1024x1024 : Shape := ⟨2, ![1024, 1024]⟩
abbrev S1024x16 : Shape := ⟨2, ![1024, 16]⟩
abbrev S8x4096x512 : Shape := ⟨3, ![8, 4096, 512]⟩
abbrev S8x4096x16 : Shape := ⟨3, ![8, 4096, 16]⟩
abbrev S1x1x512 : Shape := ⟨3, ![1, 1, 512]⟩
abbrev S_ : Shape := ⟨0, ![]⟩
abbrev S8x64x64x4x128 : Shape := ⟨5, ![8, 64, 64, 4, 128]⟩
abbrev S64x8x4x64x128 : Shape := ⟨5, ![64, 8, 4, 64, 128]⟩
abbrev S8x64x64x4x256 : Shape := ⟨5, ![8, 64, 64, 4, 256]⟩
abbrev S64x8x4x64x256 : Shape := ⟨5, ![64, 8, 4, 64, 256]⟩
abbrev S64x8x4x1x128 : Shape := ⟨5, ![64, 8, 4, 1, 128]⟩
abbrev S64x8x4x128 : Shape := ⟨4, ![64, 8, 4, 128]⟩
abbrev S8x4x128x256 : Shape := ⟨4, ![8, 4, 128, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S1x8x4x128 : Shape := ⟨4, ![1, 8, 4, 128]⟩
abbrev S8x4x128 : Shape := ⟨3, ![8, 4, 128]⟩
abbrev S64x64 : Shape := ⟨2, ![64, 64]⟩
abbrev S8x4x64x64 : Shape := ⟨4, ![8, 4, 64, 64]⟩
abbrev S8x4x128x1 : Shape := ⟨4, ![8, 4, 128, 1]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S1x8x256x1024 : Shape := ⟨4, ![1, 8, 256, 1024]⟩
abbrev S8x256x1024 : Shape := ⟨3, ![8, 256, 1024]⟩
abbrev S8x256x512 : Shape := ⟨3, ![8, 256, 512]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S1x1536x1024 : Shape := ⟨3, ![1, 1536, 1024]⟩
abbrev S1536x1024 : Shape := ⟨2, ![1536, 1024]⟩
abbrev S512x1024 : Shape := ⟨2, ![512, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 263
  | .vmem => 0
  | .smem => 0
  | _ => 0

abbrev hbmTy0_0 (i : Nat) : BufTy := match i % 128 with
  | 0 => ⟨S8x4096x1024, .f32⟩
  | 1 => ⟨S4x8x256x1024, .bf16⟩
  | 2 => ⟨S1024x3600, .f32⟩
  | 3 => ⟨S16x512, .f32⟩
  | 4 => ⟨S512, .f32⟩
  | 5 => ⟨S256, .f32⟩
  | 6 => ⟨S2x1536x1024, .f32⟩
  | 7 => ⟨S1024, .f32⟩
  | 8 => ⟨S1024, .f32⟩
  | 9 => ⟨S1024x512, .f32⟩
  | 10 => ⟨S1024x512, .f32⟩
  | 11 => ⟨S1024x1024, .f32⟩
  | 12 => ⟨S1024x1024, .f32⟩
  | 13 => ⟨S1024x16, .f32⟩
  | 14 => ⟨S1024x512, .f32⟩
  | 15 => ⟨S8x4096x512, .f32⟩
  | 16 => ⟨S1024x512, .f32⟩
  | 17 => ⟨S1024x512, .f32⟩
  | 18 => ⟨S1024x1024, .f32⟩
  | 19 => ⟨S1024x1024, .f32⟩
  | 20 => ⟨S1024x16, .f32⟩
  | 21 => ⟨S1024x512, .f32⟩
  | 22 => ⟨S8x4096x512, .f32⟩
  | 23 => ⟨S1024x512, .f32⟩
  | 24 => ⟨S1024x512, .f32⟩
  | 25 => ⟨S1024x1024, .f32⟩
  | 26 => ⟨S1024x1024, .f32⟩
  | 27 => ⟨S1024x16, .f32⟩
  | 28 => ⟨S1024x512, .f32⟩
  | 29 => ⟨S8x4096x1024, .f32⟩
  | 30 => ⟨S1024x512, .f32⟩
  | 31 => ⟨S1024x512, .f32⟩
  | 32 => ⟨S1024x1024, .f32⟩
  | 33 => ⟨S1024x1024, .f32⟩
  | 34 => ⟨S1024x16, .f32⟩
  | 35 => ⟨S1024x512, .f32⟩
  | 36 => ⟨S8x4096x16, .f32⟩
  | 37 => ⟨S8x4096x512, .f32⟩
  | 38 => ⟨S1x1x512, .f32⟩
  | 39 => ⟨S8x4096x512, .f32⟩
  | 40 => ⟨S8x4096x512, .f32⟩
  | 41 => ⟨S8x4096x512, .f32⟩
  | 42 => ⟨S8x4096x512, .f32⟩
  | 43 => ⟨S8x4096x512, .f32⟩
  | 44 => ⟨S8x4096x512, .f32⟩
  | 45 => ⟨S_, .f32⟩
  | 46 => ⟨S8x4096x512, .f32⟩
  | 47 => ⟨S8x4096x512, .f32⟩
  | 48 => ⟨S8x64x64x4x128, .f32⟩
  | 49 => ⟨S64x8x4x64x128, .f32⟩
  | 50 => ⟨S_, .f32⟩
  | 51 => ⟨S64x8x4x64x128, .f32⟩
  | 52 => ⟨S64x8x4x64x128, .f32⟩
  | 53 => ⟨S8x64x64x4x128, .f32⟩
  | 54 => ⟨S64x8x4x64x128, .f32⟩
  | 55 => ⟨S8x64x64x4x256, .f32⟩
  | 56 => ⟨S64x8x4x64x256, .f32⟩
  | 57 => ⟨S8x64x64x4x128, .f32⟩
  | 58 => ⟨S64x8x4x64x128, .f32⟩
  | 59 => ⟨S_, .f32⟩
  | 60 => ⟨S_, .f32⟩
  | 61 => ⟨S64x8x4x64x128, .f32⟩
  | 62 => ⟨S64x8x4x1x128, .f32⟩
  | 63 => ⟨S64x8x4x128, .f32⟩
  | 64 => ⟨S64x8x4x64x128, .f32⟩
  | 65 => ⟨S64x8x4x64x128, .f32⟩
  | 66 => ⟨S64x8x4x64x128, .f32⟩
  | 67 => ⟨S64x8x4x64x128, .f32⟩
  | 68 => ⟨S64x8x4x64x128, .f32⟩
  | 69 => ⟨S64x8x4x1x128, .f32⟩
  | 70 => ⟨S64x8x4x64x128, .f32⟩
  | 71 => ⟨S64x8x4x64x128, .f32⟩
  | 72 => ⟨S64x8x4x64x128, .f32⟩
  | 73 => ⟨S64x8x4x64x128, .f32⟩
  | 74 => ⟨S_, .f32⟩
  | 75 => ⟨S8x4x128x256, .f32⟩
  | 76 => ⟨S_, .f32⟩
  | 77 => ⟨S64x8x4x64x256, .f32⟩
  | 78 => ⟨S_, .i32⟩
  | 79 => ⟨S64x8x4x64x128, .f32⟩
  | 80 => ⟨S64x8x4x64x128, .f32⟩
  | 81 => ⟨S64x8x4x64x128, .f32⟩
  | 82 => ⟨S64x8x4x64x256, .f32⟩
  | 83 => ⟨S64x8x4x128, .f32⟩
  | 84 => ⟨S_, .i32⟩
  | 85 => ⟨S8x4x128x256, .f32⟩
  | 86 => ⟨S64x8x4x64x256, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x8x4x64x128, .f32⟩
  | 94 => ⟨S8x4x64x128, .f32⟩
  | 95 => ⟨S_, .i32⟩
  | 96 => ⟨S_, .i32⟩
  | 97 => ⟨S_, .i32⟩
  | 98 => ⟨S_, .i32⟩
  | 99 => ⟨S1x8x4x64x128, .f32⟩
  | 100 => ⟨S8x4x64x128, .f32⟩
  | 101 => ⟨S_, .i32⟩
  | 102 => ⟨S_, .i32⟩
  | 103 => ⟨S_, .i32⟩
  | 104 => ⟨S_, .i32⟩
  | 105 => ⟨S1x8x4x64x128, .f32⟩
  | 106 => ⟨S8x4x64x128, .f32⟩
  | 107 => ⟨S_, .i32⟩
  | 108 => ⟨S_, .i32⟩
  | 109 => ⟨S_, .i32⟩
  | 110 => ⟨S_, .i32⟩
  | 111 => ⟨S1x8x4x64x256, .f32⟩
  | 112 => ⟨S8x4x64x256, .f32⟩
  | 113 => ⟨S_, .i32⟩
  | 114 => ⟨S_, .i32⟩
  | 115 => ⟨S_, .i32⟩
  | 116 => ⟨S1x8x4x128, .f32⟩
  | 117 => ⟨S8x4x128, .f32⟩
  | 118 => ⟨S_, .i1⟩
  | 119 => ⟨S64x64, .i1⟩
  | 120 => ⟨S64x64, .i32⟩
  | 121 => ⟨S_, .i32⟩
  | 122 => ⟨S64x64, .i32⟩
  | 123 => ⟨S64x64, .i32⟩
  | 124 => ⟨S64x64, .i32⟩
  | 125 => ⟨S64x64, .i1⟩
  | 126 => ⟨S_, .i1⟩
  | 127 => ⟨S64x64, .i1⟩
  | _ => ⟨S8x4096x1024, .f32⟩

abbrev hbmTy0_1 (i : Nat) : BufTy := match i % 128 with
  | 0 => ⟨S64x64, .i1⟩
  | 1 => ⟨S8x4x64x64, .f32⟩
  | 2 => ⟨S_, .f32⟩
  | 3 => ⟨S8x4x64x64, .f32⟩
  | 4 => ⟨S8x4x64x64, .i1⟩
  | 5 => ⟨S8x4x64x64, .f32⟩
  | 6 => ⟨S8x4x64x256, .f32⟩
  | 7 => ⟨S8x4x64x256, .f32⟩
  | 8 => ⟨S8x4x128, .f32⟩
  | 9 => ⟨S8x4x128x1, .f32⟩
  | 10 => ⟨S8x4x128x256, .f32⟩
  | 11 => ⟨S8x4x128x256, .f32⟩
  | 12 => ⟨S8x4x128x256, .f32⟩
  | 13 => ⟨S8x4x128x256, .f32⟩
  | 14 => ⟨S8x4x64x256, .f32⟩
  | 15 => ⟨S1x8x4x64x256, .f32⟩
  | 16 => ⟨S_, .i32⟩
  | 17 => ⟨S_, .i32⟩
  | 18 => ⟨S_, .i32⟩
  | 19 => ⟨S_, .i32⟩
  | 20 => ⟨S64x8x4x64x256, .f32⟩
  | 21 => ⟨S_, .i32⟩
  | 22 => ⟨S_, .i32⟩
  | 23 => ⟨S8x64x64x4x256, .f32⟩
  | 24 => ⟨S8x4096x4x256, .f32⟩
  | 25 => ⟨S8x4096x4x256, .f32⟩
  | 26 => ⟨S_, .f32⟩
  | 27 => ⟨S8x4096x4, .f32⟩
  | 28 => ⟨S8x4096x4x1, .f32⟩
  | 29 => ⟨S_, .f32⟩
  | 30 => ⟨S8x4096x4x1, .f32⟩
  | 31 => ⟨S8x4096x4x1, .f32⟩
  | 32 => ⟨S_, .f32⟩
  | 33 => ⟨S8x4096x4x1, .f32⟩
  | 34 => ⟨S8x4096x4x1, .f32⟩
  | 35 => ⟨S8x4096x4x1, .f32⟩
  | 36 => ⟨S8x4096x4x256, .f32⟩
  | 37 => ⟨S8x4096x4x256, .f32⟩
  | 38 => ⟨S1x1x1x256, .f32⟩
  | 39 => ⟨S8x4096x4x256, .f32⟩
  | 40 => ⟨S8x4096x4x256, .f32⟩
  | 41 => ⟨S1024x512, .f32⟩
  | 42 => ⟨S1024x512, .f32⟩
  | 43 => ⟨S1024x1024, .f32⟩
  | 44 => ⟨S1024x1024, .f32⟩
  | 45 => ⟨S1024x16, .f32⟩
  | 46 => ⟨S1024x512, .f32⟩
  | 47 => ⟨S8x4096x1024, .f32⟩
  | 48 => ⟨S1024x512, .f32⟩
  | 49 => ⟨S1024x512, .f32⟩
  | 50 => ⟨S1024x1024, .f32⟩
  | 51 => ⟨S1024x1024, .f32⟩
  | 52 => ⟨S1024x16, .f32⟩
  | 53 => ⟨S1024x512, .f32⟩
  | 54 => ⟨S8x4096x512, .f32⟩
  | 55 => ⟨S8x4096x1024, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S_, .f32⟩
  | 62 => ⟨S8x4096x1024, .f32⟩
  | 63 => ⟨S8x4096x1024, .f32⟩
  | 64 => ⟨S8x4096x1024, .f32⟩
  | 65 => ⟨S8x4096x1024, .f32⟩
  | 66 => ⟨S1x8x256x1024, .bf16⟩
  | 67 => ⟨S8x256x1024, .bf16⟩
  | 68 => ⟨S8x256x1024, .f32⟩
  | 69 => ⟨S8x256x512, .f32⟩
  | 70 => ⟨S8x256x512, .f32⟩
  | 71 => ⟨S8x4096x4x128, .f32⟩
  | 72 => ⟨S8x256x4x128, .f32⟩
  | 73 => ⟨S8x256x4x128, .f32⟩
  | 74 => ⟨S8x4x4096x256, .f32⟩
  | 75 => ⟨S_, .f32⟩
  | 76 => ⟨S8x4x4096x256, .f32⟩
  | 77 => ⟨S8x4x4096x256, .f32⟩
  | 78 => ⟨S_, .f32⟩
  | 79 => ⟨S8x4x4096, .f32⟩
  | 80 => ⟨S_, .f32⟩
  | 81 => ⟨S8x4x4096, .f32⟩
  | 82 => ⟨S8x4x4096, .f32⟩
  | 83 => ⟨S8x4x4096x1, .f32⟩
  | 84 => ⟨S8x4x4096x256, .f32⟩
  | 85 => ⟨S8x4x4096x256, .f32⟩
  | 86 => ⟨S8x4x4096x256, .f32⟩
  | 87 => ⟨S_, .f32⟩
  | 88 => ⟨S8x4x4096, .f32⟩
  | 89 => ⟨S8x4x4096x1, .f32⟩
  | 90 => ⟨S8x4x4096x256, .f32⟩
  | 91 => ⟨S8x4x4096x256, .f32⟩
  | 92 => ⟨S8x4x128x4096, .f32⟩
  | 93 => ⟨S8x4096x4x128, .f32⟩
  | 94 => ⟨S8x4096x512, .f32⟩
  | 95 => ⟨S1x1536x1024, .f32⟩
  | 96 => ⟨S1536x1024, .f32⟩
  | 97 => ⟨S1024x1024, .f32⟩
  | 98 => ⟨S512x1024, .f32⟩
  | 99 => ⟨S_, .f32⟩
  | 100 => ⟨S8x4096x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S8x4096x1024, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S8x4096x1024, .f32⟩
  | 113 => ⟨S8x4096x1024, .f32⟩
  | 114 => ⟨S8x4096x1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x1024, .f32⟩
  | 122 => ⟨S8x4096x1024, .f32⟩
  | 123 => ⟨S_, .f32⟩
  | 124 => ⟨S8x4096x1, .f32⟩
  | 125 => ⟨S8x4096x1, .f32⟩
  | 126 => ⟨S8x4096x1, .f32⟩
  | 127 => ⟨S8x4096x1024, .f32⟩
  | _ => ⟨S8x4096x1024, .f32⟩

abbrev hbmTy0_2 (i : Nat) : BufTy := match i % 128 with
  | 0 => ⟨S8x4096x1024, .f32⟩
  | 1 => ⟨S1x1x1024, .f32⟩
  | 2 => ⟨S8x4096x1024, .f32⟩
  | 3 => ⟨S8x4096x1024, .f32⟩
  | 4 => ⟨S1x1x1024, .f32⟩
  | 5 => ⟨S8x4096x1024, .f32⟩
  | 6 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_0 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_call0_cst : Ref sig .tc := ⟨.hbm, 59, rfl⟩
abbrev main_call0_call0_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_1 : Ref sig .tc := ⟨.hbm, 74, rfl⟩
abbrev main_v61 : Ref sig .tc := ⟨.hbm, 75, rfl⟩
abbrev main_cst_2 : Ref sig .tc := ⟨.hbm, 76, rfl⟩
abbrev main_v62 : Ref sig .tc := ⟨.hbm, 77, rfl⟩
abbrev main_c : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev main_v63_3 : Ref sig .tc := ⟨.hbm, 82, rfl⟩
abbrev main_v63_4 : Ref sig .tc := ⟨.hbm, 83, rfl⟩
abbrev main_v63_5 : Ref sig .tc := ⟨.hbm, 84, rfl⟩
abbrev main_v63_6 : Ref sig .tc := ⟨.hbm, 85, rfl⟩
abbrev main_v63_7 : Ref sig .tc := ⟨.hbm, 86, rfl⟩
abbrev main_while0c_c_23 : Ref sig .tc := ⟨.hbm, 87, rfl⟩
abbrev main_while0c_v155 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_call1_c_1 : Ref sig .tc := ⟨.hbm, 91, rfl⟩
abbrev main_while0b_call1_c_2 : Ref sig .tc := ⟨.hbm, 92, rfl⟩
abbrev main_while0b_call1_v0 : Ref sig .tc := ⟨.hbm, 93, rfl⟩
abbrev main_while0b_v155 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v156 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v157 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v158 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_v0 : Ref sig .tc := ⟨.hbm, 116, rfl⟩
abbrev main_while0b_v159 : Ref sig .tc := ⟨.hbm, 117, rfl⟩
abbrev main_while0b_c_23 : Ref sig .tc := ⟨.hbm, 118, rfl⟩
abbrev main_while0b_v160 : Ref sig .tc := ⟨.hbm, 119, rfl⟩
abbrev main_while0b_call6_v0 : Ref sig .tc := ⟨.hbm, 120, rfl⟩
abbrev main_while0b_call6_c : Ref sig .tc := ⟨.hbm, 121, rfl⟩
abbrev main_while0b_call6_v1 : Ref sig .tc := ⟨.hbm, 122, rfl⟩
abbrev main_while0b_call6_v2 : Ref sig .tc := ⟨.hbm, 123, rfl⟩
abbrev main_while0b_call6_v3 : Ref sig .tc := ⟨.hbm, 124, rfl⟩
abbrev main_while0b_call6_v4 : Ref sig .tc := ⟨.hbm, 125, rfl⟩
abbrev main_while0b_call6_c_0 : Ref sig .tc := ⟨.hbm, 126, rfl⟩
abbrev main_while0b_call6_v5 : Ref sig .tc := ⟨.hbm, 127, rfl⟩
abbrev main_while0b_v161 : Ref sig .tc := ⟨.hbm, 128, rfl⟩
abbrev main_while0b_v162 : Ref sig .tc := ⟨.hbm, 129, rfl⟩
abbrev main_while0b_cst_24 : Ref sig .tc := ⟨.hbm, 130, rfl⟩
abbrev main_while0b_v163 : Ref sig .tc := ⟨.hbm, 131, rfl⟩
abbrev main_while0b_call7_v0 : Ref sig .tc := ⟨.hbm, 132, rfl⟩
abbrev main_while0b_v164 : Ref sig .tc := ⟨.hbm, 133, rfl⟩
abbrev main_while0b_v165 : Ref sig .tc := ⟨.hbm, 134, rfl⟩
abbrev main_while0b_v166 : Ref sig .tc := ⟨.hbm, 135, rfl⟩
abbrev main_while0b_v167 : Ref sig .tc := ⟨.hbm, 136, rfl⟩
abbrev main_while0b_v168 : Ref sig .tc := ⟨.hbm, 137, rfl⟩
abbrev main_while0b_v169 : Ref sig .tc := ⟨.hbm, 138, rfl⟩
abbrev main_while0b_v170 : Ref sig .tc := ⟨.hbm, 139, rfl⟩
abbrev main_while0b_v171 : Ref sig .tc := ⟨.hbm, 140, rfl⟩
abbrev main_while0b_v172 : Ref sig .tc := ⟨.hbm, 141, rfl⟩
abbrev main_while0b_v173 : Ref sig .tc := ⟨.hbm, 142, rfl⟩
abbrev main_while0b_call8_v0 : Ref sig .tc := ⟨.hbm, 143, rfl⟩
abbrev main_while0b_call8_c : Ref sig .tc := ⟨.hbm, 144, rfl⟩
abbrev main_while0b_call8_c_0 : Ref sig .tc := ⟨.hbm, 145, rfl⟩
abbrev main_while0b_call8_c_1 : Ref sig .tc := ⟨.hbm, 146, rfl⟩
abbrev main_while0b_call8_c_2 : Ref sig .tc := ⟨.hbm, 147, rfl⟩
abbrev main_while0b_v174 : Ref sig .tc := ⟨.hbm, 148, rfl⟩
abbrev main_while0b_c_25 : Ref sig .tc := ⟨.hbm, 149, rfl⟩
abbrev main_while0b_v175 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_cst_3 : Ref sig .tc := ⟨.hbm, 154, rfl⟩
abbrev main_v67 : Ref sig .tc := ⟨.hbm, 155, rfl⟩
abbrev main_v68 : Ref sig .tc := ⟨.hbm, 156, rfl⟩
abbrev main_cst_4 : Ref sig .tc := ⟨.hbm, 157, rfl⟩
abbrev main_v69 : Ref sig .tc := ⟨.hbm, 158, rfl⟩
abbrev main_v70 : Ref sig .tc := ⟨.hbm, 159, rfl⟩
abbrev main_cst_5 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_call9_v0 : Ref sig .tc := ⟨.hbm, 184, rfl⟩
abbrev main_call9_v1 : Ref sig .tc := ⟨.hbm, 185, rfl⟩
abbrev main_call9_cst : Ref sig .tc := ⟨.hbm, 186, rfl⟩
abbrev main_call9_v2 : Ref sig .tc := ⟨.hbm, 187, rfl⟩
abbrev main_call9_v3 : Ref sig .tc := ⟨.hbm, 188, rfl⟩
abbrev main_call9_cst_0 : Ref sig .tc := ⟨.hbm, 189, rfl⟩
abbrev main_call9_v4 : Ref sig .tc := ⟨.hbm, 190, rfl⟩
abbrev main_call9_v5 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_cst_6 : Ref sig .tc := ⟨.hbm, 203, rfl⟩
abbrev main_v105 : Ref sig .tc := ⟨.hbm, 204, rfl⟩
abbrev main_v106 : Ref sig .tc := ⟨.hbm, 205, rfl⟩
abbrev main_cst_7 : Ref sig .tc := ⟨.hbm, 206, rfl⟩
abbrev main_v107 : Ref sig .tc := ⟨.hbm, 207, rfl⟩
abbrev main_cst_8 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_cst_9 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_cst_10 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_cst_11 : Ref sig .tc := ⟨.hbm, 234, rfl⟩
abbrev main_v131 : Ref sig .tc := ⟨.hbm, 235, rfl⟩
abbrev main_v132 : Ref sig .tc := ⟨.hbm, 236, rfl⟩
abbrev main_cst_12 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_cst_13 : Ref sig .tc := ⟨.hbm, 243, rfl⟩
abbrev main_v138 : Ref sig .tc := ⟨.hbm, 244, rfl⟩
abbrev main_v139 : Ref sig .tc := ⟨.hbm, 245, rfl⟩
abbrev main_cst_14 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_cst_15 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S32768x1024 : Shape := ⟨2, ![32768, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4x1024x5632, .f32⟩
  | .hbm, ⟨2, _⟩ => ⟨S4x2816x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x5632, .f32⟩
  | .local _ .vmem, ⟨3, _⟩ => ⟨S1x2816x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S4x1024x5632 : Shape := ⟨3, ![4, 1024, 5632]⟩
abbrev S4x2816x1024 : Shape := ⟨3, ![4, 2816, 1024]⟩
abbrev S1024 : Shape := ⟨1, ![1024]⟩
abbrev S_ : Shape := ⟨0, ![]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1024x5632, .f32⟩
  | .hbm, ⟨2, _⟩ => ⟨S4x2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S1x1024x5632, .f32⟩
  | .hbm, ⟨9, _⟩ => ⟨S1024x5632, .f32⟩
  | .hbm, ⟨10, _⟩ => ⟨S1x2816x1024, .f32⟩
  | .hbm, ⟨11, _⟩ => ⟨S2816x1024, .f32⟩
  | .hbm, ⟨12, _⟩ => ⟨S32768x5632, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S_, .f32⟩
  | .hbm, ⟨18, _⟩ => ⟨S32768x2816, .f32⟩
  | .hbm, ⟨19, _⟩ => ⟨S32768x2816, .f32⟩
  | .hbm, ⟨20, _⟩ => ⟨S_, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S8x256x1024 : Shape := ⟨3, ![8, 256, 1024]⟩
abbrev S4x1024x1024 : Shape := ⟨3, ![4, 1024, 1024]⟩
abbrev S2048x1024 : Shape := ⟨2, ![2048, 1024]⟩
abbrev S4x2048x1024 : Shape := ⟨3, ![4, 2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x256x1024, .f32⟩
  | .hbm, ⟨1, _⟩ => ⟨S4x1024x1024, .f32⟩
  | .hbm, ⟨2, _⟩ => ⟨S2048x1024, .f32⟩
  | .hbm, ⟨3, _⟩ => ⟨S2048x1024, .bf16⟩
  | .hbm, ⟨4, _⟩ => ⟨S4x1024x1024, .bf16⟩
  | .hbm, ⟨5, _⟩ => ⟨S4x2048x1024, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x2048x1024, .bf16⟩
  | .local _ .vmem, ⟨4, _⟩ => ⟨S1x2048x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8x256x1024 : Shape := ⟨3, ![8, 256, 1024]⟩
abbrev S4x1024x1024 : Shape := ⟨3, ![4, 1024, 1024]⟩
abbrev S2048x1024 : Shape := ⟨2, ![2048, 1024]⟩
abbrev S4x1024x2048 : Shape := ⟨3, ![4, 1024, 2048]⟩
abbrev S4x2048x1024 : Shape := ⟨3, ![4, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024x1024, .f32⟩
  | .hbm, ⟨2, _⟩ => ⟨S2048x1024, .f32⟩
  | .hbm, ⟨3, _⟩ => ⟨S4x1024x2048, .f32⟩
  | .hbm, ⟨4, _⟩ => ⟨S4x2048x1024, .f32⟩
  | .hbm, ⟨5, _⟩ => ⟨S4x2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.GlaBlock.lean ====
module

public import proofs.«01_k».proof.Proof.Gen.KernelIdeal.Value
public import Idealize.ShloMosaic.PureOps.Ideal
public import Idealize.ShloMosaic.Lib.Pointwise

/-!
# One grid step of the mixer kernel, chunk by chunk

The kernel's body writes its eight chunks and four heads out one after the other. Here the same values are written once,
with the chunk `c` and the head `h` as parameters.
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

/-- An array of extended reals. -/
abbrev A (S : Shape) := FVec Ideal S .f32

/-- A matrix operand: the same values, under the narrower format's name. -/
abbrev B (S : Shape) := FVec Ideal S .bf16

/-- What a load of the rectangle reads. -/
abbrev loadAt {S : Shape} (X : A S) (r : Rect S) : A r.shape := View.ld (Val := Elt Ideal) (e' := .f32) X r

section Pre
variable (x0 : Vec Ideal S1x512x1024 .f32) (x1 : Vec Ideal S1024x3712 .bf16) (x2 : Vec Ideal S128x512 .bf16) (x3 : Vec Ideal S1x512 .f32)

/-- The block's rows times the joined projection. -/
def hx : A S512x3712 := k0_pay4 x0 x1

/-- The log decay of every row and key column. -/
def lg : A S512x512 :=
  k0_pay5 (loadAt (hx x0 x1) (Rect.unit (s := S512x3712) ![0, 3584] S512x128.size inb_S512x3712_S512x128_0_3584)) x2 x3

/-- The row's place in its chunk. -/
def pos : IVec S512x512 32 := k0_pay6 (iota .tc S512x512 32 [0] iota_S512x512_d0_w32) 64#32 0#1 1#32

/-- The running sums after the doubling steps 1, 2, 4, 8. -/
def sums8 : A S512x512 := k0_pay7 (F := Ideal) (lg x0 x1 x2 x3) (iota .tc S512x512 32 [0] iota_S512x512_d0_w32) 64#32 0#1 1#32

/-- The rows the step of 16 changes. -/
def mask16 : IVec S512x512 1 := k0_pay8 (iota .tc S512x512 32 [0] iota_S512x512_d0_w32) 64#32 0#1 1#32

/-- The running sums moved down 16 rows. -/
def rot16 : A S512x512 := k0_pay9 (F := Ideal) (lg x0 x1 x2 x3) (iota .tc S512x512 32 [0] iota_S512x512_d0_w32) 64#32 0#1 1#32

/-- Zero. -/
def z0 : Ideal .f32 := FloatOps.ofBits FTy.f32 0#32

/-- The log decay summed along each chunk. -/
def bc : A S512x512 := k0_pay10 (F := Ideal) pos (sums8 x0 x1 x2 x3) mask16 (rot16 x0 x1 x2 x3) z0

/-- The queries, scaled and decayed. -/
def qe : B S512x512 :=
  k0_pay19 (F := Ideal) pos (sums8 x0 x1 x2 x3) mask16 (rot16 x0 x1 x2 x3) z0
    (loadAt (hx x0 x1) (Rect.unit (s := S512x3712) ![0, 0] S512x512.size inb_S512x3712_S512x512_0_0))

/-- The keys with the decay taken out. -/
def ke : B S512x512 :=
  k0_pay20 (F := Ideal) pos (sums8 x0 x1 x2 x3) mask16 (rot16 x0 x1 x2 x3) z0
    (loadAt (hx x0 x1) (Rect.unit (s := S512x3712) ![0, 512] S512x512.size inb_S512x3712_S512x512_0_512))

/-- The keys decayed to the end of their chunk. -/
def kd : A S512x512 :=
  k0_pay21 (F := Ideal) pos (sums8 x0 x1 x2 x3) mask16 (rot16 x0 x1 x2 x3) z0
    (loadAt (hx x0 x1) (Rect.unit (s := S512x3712) ![0, 512] S512x512.size inb_S512x3712_S512x512_0_512))

/-- Each chunk's whole decay, one column per chunk. -/
def dec : A S512x8 := k0_pay23 (F := Ideal) (k0_pay22 (F := Ideal) pos (sums8 x0 x1 x2 x3) mask16 (rot16 x0 x1 x2 x3) z0)

end Pre

section Chunk

theorem sl_qk {c h : ℕ} (hc : c < 8) (hh : h < 4) : S512x512.Slices ![64 * c, 128 * h] S64x128 :=
  ⟨rfl, fun a => match a with
    | ⟨0, _⟩ => show 64 * c + 64 ≤ 512 by omega
    | ⟨1, _⟩ => show 128 * h + 128 ≤ 512 by omega⟩

theorem sl_dec {c h : ℕ} (hc : c < 8) (hh : h < 4) : S512x8.Slices ![128 * h, c] S128x1 :=
  ⟨rfl, fun a => match a with
    | ⟨0, _⟩ => show 128 * h + 128 ≤ 512 by omega
    | ⟨1, _⟩ => show c + 1 ≤ 8 by omega⟩

theorem in_v {c h : ℕ} (hc : c < 8) (hh : h < 4) : ∀ a, (![64 * c, 1024 + 256 * h] : Fin 2 → ℕ) a + S64x256.size a ≤ S512x3712.size a :=
  fun a => match a with
    | ⟨0, _⟩ => show 64 * c + 64 ≤ 512 by omega
    | ⟨1, _⟩ => show 1024 + 256 * h + 256 ≤ 3712 by omega

theorem in_st {h : ℕ} (hh : h < 4) : ∀ a, (![h, 0, 0] : Fin 3 → ℕ) a + S1x128x256.size a ≤ S4x128x256.size a :=
  fun a => match a with
    | ⟨0, _⟩ => show h + 1 ≤ 4 by omega
    | ⟨1, _⟩ => show 0 + 128 ≤ 128 by omega
    | ⟨2, _⟩ => show 0 + 256 ≤ 256 by omega

theorem in_oc {c h : ℕ} (hc : c < 8) (hh : h < 4) : ∀ a, (![64 * c, 256 * h] : Fin 2 → ℕ) a + S64x256.size a ≤ S512x1024.size a :=
  fun a => match a with
    | ⟨0, _⟩ => show 64 * c + 64 ≤ 512 by omega
    | ⟨1, _⟩ => show 256 * h + 256 ≤ 1024 by omega

variable (H : A S512x3712) (Q K : B S512x512) (D : A S512x512) (E : A S512x8)

/-- The values of one chunk and head. -/
def cv {c h : ℕ} (hc : c < 8) (hh : h < 4) : B S64x256 :=
  truncf .bf16 (loadAt H (Rect.unit (s := S512x3712) ![64 * c, 1024 + 256 * h] S64x256.size (in_v hc hh)) : A S64x256) bitsLt_bf16_f32

/-- The attention inside the chunk: query times key, on and below the diagonal. -/
def catt {c h : ℕ} (hc : c < 8) (hh : h < 4) : B S64x64 :=
  k0_pay121 k0_pay24
    (matmul dot_S64x128_S64x128_S64x64_1_1_0_0_n_n none (extractStridedSlice S64x128 ![64 * c, 128 * h] Q (sl_qk hc hh))
      (extractStridedSlice S64x128 ![64 * c, 128 * h] K (sl_qk hc hh)) (constant S64x64 .f32 0x00000000#32))

/-- What the chunk adds to the state. -/
def cupd {c h : ℕ} (hc : c < 8) (hh : h < 4) : A S128x256 :=
  matmul dot_S128x64_S64x256_S128x256_1_0_0_1_n_n none
    (truncf .bf16 (transpose S128x64 [1, 0] (extractStridedSlice S64x128 ![64 * c, 128 * h] D (sl_qk hc hh)) transposes_S64x128_p1_0_S128x64)
      bitsLt_bf16_f32 : B S128x64)
    (cv H hc hh) (constant S128x256 .f32 0x00000000#32)

/-- The state the chunk leaves, from the one it finds. -/
def cnext {c h : ℕ} (hc : c < 8) (hh : h < 4) (s : A S128x256) : A S128x256 :=
  addf (mulf s (broadcastTo S128x256 (extractStridedSlice S128x1 ![128 * h, c] E (sl_dec hc hh)) broadcasts_S128x1_S128x256))
    (cupd H D hc hh)

/-- The chunk's outputs, from the state it finds. -/
def cout {c h : ℕ} (hc : c < 8) (hh : h < 4) (s : A S128x256) : A S64x256 :=
  shapeCast S64x256
    (addf (k0_pay153 (cv H hc hh) (catt Q K hc hh))
      (matmul dot_S64x128_S128x256_S64x256_1_0_0_1_n_n none (extractStridedSlice S64x128 ![64 * c, 128 * h] Q (sl_qk hc hh))
        (truncf .bf16 s bitsLt_bf16_f32 : B S128x256) (constant S64x256 .f32 0x00000000#32)))
    shapeCasts_S64x256_S64x256

/-- The state of head `h` after the first `c` chunks of the block. -/
def cst {h : ℕ} (hh : h < 4) (s : A S128x256) : (c : ℕ) → c ≤ 8 → A S128x256
  | 0, _ => s
  | c + 1, hc => cnext H D E (Nat.lt_of_succ_le hc) hh (cst hh s c (Nat.le_of_succ_le hc))

/-- The head's state in the buffer. -/
def ldst (X : A S4x128x256) {h : ℕ} (hh : h < 4) : A S128x256 :=
  shapeCast S128x256 (loadAt X (Rect.unit (s := S4x128x256) ![h, 0, 0] S1x128x256.size (in_st hh)) : A S1x128x256) shapeCasts_S1x128x256_S128x256

/-- The piece of the state buffer that head `h` writes. -/
def stPiece (X : A S4x128x256) {h : ℕ} (hh : h < 4) : View.Piece (Elt Ideal) S4x128x256 .f32 :=
  ⟨Rect.unit ![h, 0, 0] S1x128x256.size (in_st hh),
    shapeCast S1x128x256 (cst H D E hh (ldst X hh) 8 le_rfl) shapeCasts_S128x256_S1x128x256⟩

/-- The piece of the output buffer that chunk `c` and head `h` write. -/
def ocPiece (X : A S4x128x256) {c h : ℕ} (hc : c < 8) (hh : h < 4) : View.Piece (Elt Ideal) S512x1024 .f32 :=
  ⟨Rect.unit ![64 * c, 256 * h] S64x256.size (in_oc hc hh),
    cout H Q K hc hh (cst H D E hh (ldst X hh) c (Nat.le_of_lt hc))⟩

/-- The pieces of the state buffer, last written first. -/
def stPieces (X : A S4x128x256) : List (View.Piece (Elt Ideal) S4x128x256 .f32) :=
  [stPiece H D E X (h := 3) (by decide), stPiece H D E X (h := 2) (by decide), stPiece H D E X (h := 1) (by decide),
    stPiece H D E X (h := 0) (by decide)]

/-- The pieces of the output buffer that the first `c` chunks write, last written first. -/
def ocPieces (X : A S4x128x256) : (c : ℕ) → c ≤ 8 → List (View.Piece (Elt Ideal) S512x1024 .f32)
  | 0, _ => []
  | c + 1, hc => ocPiece H Q K D E X (c := c) (h := 3) (Nat.lt_of_succ_le hc) (by decide)
      :: ocPiece H Q K D E X (c := c) (h := 2) (Nat.lt_of_succ_le hc) (by decide)
      :: ocPiece H Q K D E X (c := c) (h := 1) (Nat.lt_of_succ_le hc) (by decide)
      :: ocPiece H Q K D E X (c := c) (h := 0) (Nat.lt_of_succ_le hc) (by decide)
      :: ocPieces X c (Nat.le_of_succ_le hc)

/-- The output buffer once the chunks are done. -/
def ocs (X : A S4x128x256) : A S512x1024 := View.canon (ocPieces H Q K D E X 8 le_rfl)

end Chunk

section Rest

theorem in_o {h : ℕ} (hh : h < 4) : ∀ a, (![0, 256 * h] : Fin 2 → ℕ) a + S512x256.size a ≤ S512x1024.size a :=
  fun a => match a with
    | ⟨0, _⟩ => show 0 + 512 ≤ 512 by omega
    | ⟨1, _⟩ => show 256 * h + 256 ≤ 1024 by omega

theorem in_r {h : ℕ} (hh : h < 4) : ∀ a, (![0, 2048 + 256 * h] : Fin 2 → ℕ) a + S512x256.size a ≤ S512x3712.size a :=
  fun a => match a with
    | ⟨0, _⟩ => show 0 + 512 ≤ 512 by omega
    | ⟨1, _⟩ => show 2048 + 256 * h + 256 ≤ 3712 by omega

theorem in_kv {o : ℕ} (ho : o < 8) : ∀ a, (![0, 0, 0, 128 * o] : Fin 4 → ℕ) a + S1x1x256x128.size a ≤ S1x1x256x1024.size a :=
  fun a => match a with
    | ⟨0, _⟩ => show 0 + 1 ≤ 1 by omega
    | ⟨1, _⟩ => show 0 + 1 ≤ 1 by omega
    | ⟨2, _⟩ => show 0 + 256 ≤ 256 by omega
    | ⟨3, _⟩ => show 128 * o + 128 ≤ 1024 by omega

theorem sl_m {j : ℕ} (hj : j < 4) : S512x512.Slices ![0, 128 * j] S512x128 :=
  ⟨rfl, fun a => match a with
    | ⟨0, _⟩ => show 0 + 512 ≤ 512 by omega
    | ⟨1, _⟩ => show 128 * j + 128 ≤ 512 by omega⟩

variable (H : A S512x3712) (OC : A S512x1024) (x4 : Vec Ideal S1x256 .f32) (x5 : Vec Ideal S1x1x256x1024 .bf16)

/-- Head `h`'s outputs, normed by their mean square and gated. -/
def gate {h : ℕ} (hh : h < 4) : B S512x256 :=
  k0_pay263 (F := Ideal) x4 (loadAt OC (Rect.unit (s := S512x1024) ![0, 256 * h] S512x256.size (in_o hh)))
    (loadAt H (Rect.unit (s := S512x3712) ![0, 2048 + 256 * h] S512x256.size (in_r hh)))

/-- The columns that ask the memory. -/
def qm : A S512x512 := loadAt H (Rect.unit (s := S512x3712) ![0, 3072] S512x512.size inb_S512x3712_S512x512_0_3072)

/-- Memory head `j`'s outputs: its keys are columns `128 j …` of the memory's block, its values columns `512 + 128 j …`. -/
def mem {j : ℕ} (hj : j < 4) : B S512x128 :=
  k0_pay270 (F := Ideal)
    (truncf .bf16 (extractStridedSlice S512x128 ![0, 128 * j]
      (qm H) (sl_m hj) : A S512x128) bitsLt_bf16_f32)
    (shapeCast S256x128 (View.ld x5 (Rect.unit (s := S1x1x256x1024) ![0, 0, 0, 128 * j] S1x1x256x128.size (in_kv (by omega))) : B S1x1x256x128)
      shapeCasts_S1x1x256x128_S256x128)
    (View.ld x5 (Rect.unit (s := S1x1x256x1024) ![0, 0, 0, 128 * (4 + j)] S1x1x256x128.size (in_kv (by omega))) : B S1x1x256x128)

/-- The eight heads' outputs side by side. -/
def cat : B S512x1536 :=
  concatenate S512x1536 1 [⟨S512x256, gate H OC x4 (h := 0) (by decide)⟩, ⟨S512x256, gate H OC x4 (h := 1) (by decide)⟩,
    ⟨S512x256, gate H OC x4 (h := 2) (by decide)⟩, ⟨S512x256, gate H OC x4 (h := 3) (by decide)⟩,
    ⟨S512x128, mem H x5 (j := 0) (by decide)⟩, ⟨S512x128, mem H x5 (j := 1) (by decide)⟩,
    ⟨S512x128, mem H x5 (j := 2) (by decide)⟩, ⟨S512x128, mem H x5 (j := 3) (by decide)⟩]
    concatenates_S512x256_S512x256_S512x256_S512x256_S512x128_S512x128_S512x128_S512x128_S512x1536_d1

/-- The residual stream: the scaled tokens plus the heads' outputs times the last projection. -/
def resid (x0 : Vec Ideal S1x512x1024 .f32) (y : B S512x1536) (w : Vec Ideal S1x1536x1024 .bf16) : A S512x1024 :=
  addf (mulf (broadcast S512x1024 (Scalar.ofBits .f32 0x3FD744FD#32)) (shapeCast S512x1024 x0 shapeCasts_S1x512x1024_S512x1024))
    (matmul dot_S512x1536_S1536x1024_S512x1024_1_0_0_1_n_n none y (shapeCast S1536x1024 w shapeCasts_S1x1536x1024_S1536x1024 : B S1536x1024)
      (constant S512x1024 .f32 0x00000000#32))

/-- The norm over a block's rows, as the kernel takes it. -/
def norm (z : A S512x1024) (g b : A S1x1024) : A S512x1024 :=
  have mu : A S512x1 := divf (shapeCast S512x1 (multiReduction .add [1] S512 z 0x00000000#32 reduces_S512x1024_S512 (.inl rfl) rfl)
    shapeCasts_S512_S512x1) (broadcast S512x1 (Scalar.ofBits .f32 0x44800000#32))
  have cz : A S512x1024 := subf z (broadcastTo S512x1024 mu broadcasts_S512x1_S512x1024)
  have var : A S512x1 := divf (shapeCast S512x1 (multiReduction .add [1] S512 (mulf cz cz) 0x00000000#32 reduces_S512x1024_S512 (.inl rfl) rfl)
    shapeCasts_S512_S512x1) (broadcast S512x1 (Scalar.ofBits .f32 0x44800000#32))
  addf (mulf (mulf cz (broadcastTo S512x1024 (rsqrt (addf var (broadcast S512x1 (Scalar.ofBits .f32 0x3727C5AC#32)))) broadcasts_S512x1_S512x1024))
    (broadcastTo S512x1024 g broadcasts_S1x1024_S512x1024)) (broadcastTo S512x1024 b broadcasts_S1x1024_S512x1024)

/-- The block's result from its output buffer. -/
def finish (x0 : Vec Ideal S1x512x1024 .f32) (x6 : Vec Ideal S1x1536x1024 .bf16) (x7 x8 : Vec Ideal S1x1024 .f32) : A S1x512x1024 :=
  shapeCast S1x512x1024 (norm (resid x0 (cat H OC x4 x5) x6) (shapeCast S1x1024 x7 shapeCasts_S1x1024_S1x1024)
    (shapeCast S1x1024 x8 shapeCasts_S1x1024_S1x1024)) shapeCasts_S512x1024_S1x512x1024

end Rest

/-- The block's result, from the block's inputs and the state it finds. -/
def blockOut (x0 : Vec Ideal S1x512x1024 .f32) (x1 : Vec Ideal S1024x3712 .bf16) (x2 : Vec Ideal S128x512 .bf16) (x3 : Vec Ideal S1x512 .f32)
    (x4 : Vec Ideal S1x256 .f32) (x5 : Vec Ideal S1x1x256x1024 .bf16) (x6 : Vec Ideal S1x1536x1024 .bf16) (x7 x8 : Vec Ideal S1x1024 .f32)
    (X : A S4x128x256) : A S1x512x1024 :=
  finish (hx x0 x1) (ocs (hx x0 x1) (qe x0 x1 x2 x3) (ke x0 x1 x2 x3) (kd x0 x1 x2 x3) (dec x0 x1 x2 x3) X) x4 x5 x0 x6 x7 x8

/-- The state buffer the block leaves. -/
def blockState (x0 : Vec Ideal S1x512x1024 .f32) (x1 : Vec Ideal S1024x3712 .bf16) (x2 : Vec Ideal S128x512 .bf16) (x3 : Vec Ideal S1x512 .f32)
    (X : A S4x128x256) (L : List (View.Piece (Elt Ideal) S4x128x256 .f32)) : A S4x128x256 :=
  View.canon (stPieces (hx x0 x1) (kd x0 x1 x2 x3) (dec x0 x1 x2 x3) X ++ L)

end Cert.KernelIdeal.Gla
-- ==== Proof.Rows.lean ====
/-
  The row functions both claims end in: a mean and a layer norm of one row of 1024 values, and the feed-forward half step
  of one token, over the extended reals. Nothing here speaks of a program.
-/
module

public import Idealize.ShloMosaic.PureOps.Ideal
public import Idealize.ShloMosaic.Lib.Pointwise

@[expose] public section

set_option maxRecDepth 16384

noncomputable section

open Idealize.ShloMosaic

namespace Cert.Rows

/-- The mean of a row of 1024 values: their sum over the number 1024. -/
def mean (z : Fin 1024 → EReal) : EReal := Ideal.div (∑ k, z k) (Ideal.ofBits .f32 0x44800000#32)

/-- The layer norm of a row at column `d`: centred, over the standard deviation, then the learned gain and offset. -/
def layerNorm (z g b : Fin 1024 → EReal) (d : Fin 1024) : EReal :=
  (z d - mean z) * Ideal.rsqrt (mean (fun k => (z k - mean z) * (z k - mean z)) + Ideal.ofBits .f32 0x3727C5AC#32) * g d + b d

/-- Column `p` of the gated hidden layer of a token `x`: its gate column times the logistic of it, times its other column. -/
def hidden (x : Fin 1024 → EReal) (gate up : Fin 1024 → EReal) : EReal :=
  (∑ k, x k * gate k) * Ideal.logistic (∑ k, x k * gate k) * ∑ k, x k * up k

/-- The residual row of the feed-forward half step: the scaled token plus half its feed-forward image. -/
def halfStep (x : Fin 1024 → EReal) (w : Fin 1024 → Fin 5632 → EReal) (w' : Fin 2816 → Fin 1024 → EReal) (d : Fin 1024) : EReal :=
  Ideal.ofBits .f32 0x3FD744FD#32 * x d + Ideal.ofBits .f32 0x3F000000#32
    * ∑ p : Fin 2816, hidden x (fun k => w k ⟨p.val, by omega⟩) (fun k => w k ⟨2816 + p.val, by omega⟩) * w' p d

/-- A sum over 2816 terms, taken in eleven runs of 256. -/
theorem sum_runs (f : Fin 2816 → EReal) :
    ∑ n : Fin 11, ∑ j : Fin 256, f ⟨256 * n.val + j.val, by omega⟩ = ∑ p, f p := by
  rw [← Fintype.sum_prod_type', ← Equiv.sum_comp (finProdFinEquiv (m := 11) (n := 256))]
  refine Finset.sum_congr rfl fun q _ => congrArg f (Fin.ext ?_)
  show 256 * q.1.val + q.2.val = q.2.val + 256 * q.1.val
  omega

end Cert.Rows

end
-- ==== Proof.Mix.lean ====
module

public import Idealize.ShloMosaic.PureOps.Ideal
public import proofs.«01_k».proof.Proof.Rows

/-!
# The mixer's mathematics, token by token and chunk by chunk

Over the extended reals: the projections of a token, the log decay, its sums along a chunk of 64 tokens, a chunk's outputs
from the state it finds and the state it leaves, and what is done with a token's outputs afterwards. Both programs are shown
to compute these.
-/

@[expose] public section
noncomputable section
open Idealize.ShloMosaic
namespace Cert.Mix

/-- The scale of the queries, the float nearest one over the root of 128. -/
def scale : EReal := Ideal.ofBits .f32 0x3DB504F3#32

/-- The sum of a chunk's values up to row `i`. -/
def cum (l : Fin 64 → EReal) (i : Fin 64) : EReal := ∑ j, if j ≤ i then l j else 0

/-- The log sigmoid of a gate, over 16. -/
def logSig (z : EReal) : EReal := Ideal.div (-Ideal.log1p (Ideal.exp (-z))) (Ideal.ofBits .f32 0x41800000#32)

/-- The float 16 over it is its product with the float 1/16. -/
theorem div_sixteen (x : EReal) : Ideal.div x (Ideal.ofBits .f32 0x41800000#32) = x * Ideal.ofBits .f32 0x3D800000#32 := by
  have h : Ideal.ofBits .f32 0x41800000#32 = ((16 : ℝ) : EReal) := by
    simp [Ideal.ofBits, Ideal.ieee]
    exact (EReal.coe_mul _ _).symm.trans (congrArg _ (by norm_num))
  have h' : Ideal.ofBits .f32 0x3D800000#32 = ((16 : ℝ)⁻¹ : ℝ) := by
    simp [Ideal.ofBits, Ideal.ieee]
    exact (EReal.coe_mul _ _).symm.trans (congrArg _ (by norm_num))
  rw [h, h', Ideal.div, if_neg (by exact_mod_cast (by norm_num : (16 : ℝ) ≠ 0)), EReal.coe_inv]

/-- The log sigmoid written without overflow, `min(z, 0) - log(1 + exp(-|z|))`, is the plain one: at every extended real. -/
theorem logSig_stable (z : EReal) :
    (min z 0 - Ideal.log1p (Ideal.exp (0 - max z (-z)))) * Ideal.ofBits .f32 0x3D800000#32 = logSig z := by
  rw [logSig, div_sixteen]
  congr 1
  induction z with
  | bot =>
    have e : Ideal.log1p (Ideal.exp ⊤) = ⊤ := by
      show Ideal.log (1 + ⊤) = ⊤
      rw [EReal.add_top_of_ne_bot (x := 1) (EReal.coe_ne_bot 1)]; rfl
    rw [EReal.neg_bot, e, min_eq_left bot_le, EReal.bot_sub, EReal.neg_top]
  | top => simp [Ideal.log1p, Ideal.exp, Ideal.log]
  | coe r =>
    have hl : ∀ s : ℝ, Ideal.log1p (Ideal.exp (s : EReal)) = (Real.log (1 + Real.exp s) : ℝ) := fun s => by
      have hs : ((1 : EReal) + (Real.exp s : ℝ)) = ((1 + Real.exp s : ℝ) : EReal) := by push_cast; rfl
      show Ideal.log (1 + (Real.exp s : ℝ)) = _
      rw [hs]
      show (if (1 + Real.exp s) ≤ 0 then _ else _) = _
      rw [if_neg (not_le.2 (by positivity))]
    rw [← EReal.coe_neg, hl]
    rcases le_total 0 r with h | h
    · have e1 : max (r : EReal) ((-r : ℝ) : EReal) = (r : ℝ) := max_eq_left (by exact_mod_cast (by linarith : -r ≤ r))
      have e2 : min (r : EReal) 0 = 0 := min_eq_right (by exact_mod_cast h)
      rw [e1, e2, zero_sub, zero_sub, ← EReal.coe_neg, hl]
    · have e1 : max (r : EReal) ((-r : ℝ) : EReal) = ((-r : ℝ) : EReal) := max_eq_right (by exact_mod_cast (by linarith : r ≤ -r))
      have e2 : min (r : EReal) 0 = (r : ℝ) := min_eq_left (by exact_mod_cast h)
      rw [e1, e2, zero_sub, ← EReal.coe_neg, neg_neg, hl, ← EReal.coe_sub, ← EReal.coe_neg]
      refine congrArg _ ?_
      have hx : 1 + Real.exp (-r) = Real.exp (-r) * (1 + Real.exp r) := by
        rw [mul_add, ← Real.exp_add]; simp [add_comm]
      rw [hx, Real.log_mul (Real.exp_pos _).ne' (by positivity), Real.log_exp]
      ring

/-- A chunk's output at row `i`: the attention inside the chunk, and the state's part. -/
def out (qe ke : Fin 64 → Fin 128 → EReal) (v : Fin 64 → Fin 256 → EReal) (S : Fin 128 → Fin 256 → EReal) (i : Fin 64) (e : Fin 256) : EReal :=
  ∑ j, (if j ≤ i then ∑ d, qe i d * ke j d else 0) * v j e + ∑ d, qe i d * S d e

/-- The state a chunk leaves. -/
def next (kd : Fin 64 → Fin 128 → EReal) (dec : Fin 128 → EReal) (v : Fin 64 → Fin 256 → EReal) (S : Fin 128 → Fin 256 → EReal)
    (d : Fin 128) (e : Fin 256) : EReal :=
  S d e * dec d + ∑ i, kd i d * v i e

/-- The state after the first `n` chunks, from the state `S`. -/
def state (S : Fin 128 → Fin 256 → EReal) (kd : ℕ → Fin 64 → Fin 128 → EReal) (dec : ℕ → Fin 128 → EReal)
    (v : ℕ → Fin 64 → Fin 256 → EReal) : ℕ → Fin 128 → Fin 256 → EReal
  | 0 => S
  | n + 1 => next (kd n) (dec n) (v n) (state S kd dec v n)

/-- The chunks may be run in two goes. -/
theorem state_add (S : Fin 128 → Fin 256 → EReal) (kd : ℕ → Fin 64 → Fin 128 → EReal) (dec : ℕ → Fin 128 → EReal)
    (v : ℕ → Fin 64 → Fin 256 → EReal) (n m : ℕ) :
    state S kd dec v (n + m) = state (state S kd dec v n) (fun c => kd (n + c)) (fun c => dec (n + c)) (fun c => v (n + c)) m := by
  induction m with
  | zero => rfl
  | succ m ih => exact congrArg (next (kd (n + m)) (dec (n + m)) (v (n + m))) ih

/-- The states agree when the chunks that lead to them do. -/
theorem state_congr {S : Fin 128 → Fin 256 → EReal} {kd kd' : ℕ → Fin 64 → Fin 128 → EReal} {dec dec' : ℕ → Fin 128 → EReal}
    {v v' : ℕ → Fin 64 → Fin 256 → EReal} (n : ℕ) (hk : ∀ c < n, kd c = kd' c) (hd : ∀ c < n, dec c = dec' c) (hv : ∀ c < n, v c = v' c) :
    state S kd dec v n = state S kd' dec' v' n := by
  induction n with
  | zero => rfl
  | succ n ih =>
    show next (kd n) (dec n) (v n) _ = next (kd' n) (dec' n) (v' n) _
    rw [hk n n.lt_succ_self, hd n n.lt_succ_self, hv n n.lt_succ_self,
      ih (fun c hc => hk c (by omega)) (fun c hc => hd c (by omega)) (fun c hc => hv c (by omega))]

/-- A head's output of one token, over its root mean square, with the learned gain, times the gate's column times its logistic. -/
def gated (o gain r : Fin 256 → EReal) (e : Fin 256) : EReal :=
  o e * Ideal.rsqrt (Ideal.div (∑ k, o k * o k) (Ideal.ofBits .f32 0x43800000#32) + Ideal.ofBits .f32 0x358637BD#32) * gain e
    * (r e * Ideal.logistic (r e))

/-- The memory's scores of one token and head. -/
def score (q : Fin 128 → EReal) (k : Fin 256 → Fin 128 → EReal) (m : Fin 256) : EReal := (∑ d, q d * k m d) * scale

/-- The exponential of a score less the largest. -/
def weight (q : Fin 128 → EReal) (k : Fin 256 → Fin 128 → EReal) (m : Fin 256) : EReal :=
  Ideal.exp (score q k m - Finset.univ.sup (score q k))

/-- The memory's values averaged with the softmax of the scores. -/
def memory (q : Fin 128 → EReal) (k v : Fin 256 → Fin 128 → EReal) (d : Fin 128) : EReal :=
  ∑ m, Ideal.div (weight q k m) (∑ m', weight q k m') * v m d

/-- The softmax's sum is not zero when every score is a real number: the largest score's term is one. -/
theorem weights_ne_zero (q : Fin 128 → EReal) (k : Fin 256 → Fin 128 → EReal) (h : ∀ m, score q k m ≠ ⊤ ∧ score q k m ≠ ⊥) :
    ∑ m, weight q k m ≠ 0 := by
  obtain ⟨m, -, hm⟩ := Finset.exists_mem_eq_sup Finset.univ Finset.univ_nonempty (score q k)
  have h1 : weight q k m = 1 := by
    rw [weight, hm, EReal.sub_self (h m).1 (h m).2]
    show ((Real.exp 0 : ℝ) : EReal) = 1
    rw [Real.exp_zero]; rfl
  have h0 : ∀ x : EReal, 0 ≤ Ideal.exp x := fun x => by
    induction x with
    | bot => exact le_rfl
    | top => exact le_top
    | coe r => exact EReal.coe_nonneg.2 (Real.exp_pos r).le
  have h2 : weight q k m ≤ ∑ m, weight q k m := Finset.single_le_sum (f := weight q k) (fun m _ => h0 _) (Finset.mem_univ m)
  rw [h1] at h2
  exact (lt_of_lt_of_le zero_lt_one h2).ne'

/-- Multiplying by one over the sum is dividing by it, off zero. -/
theorem memory_eq (q : Fin 128 → EReal) (k v : Fin 256 → Fin 128 → EReal) (h : ∀ m, score q k m ≠ ⊤ ∧ score q k m ≠ ⊥) (d : Fin 128) :
    ∑ m, weight q k m * Ideal.div 1 (∑ m', weight q k m') * v m d = memory q k v d := by
  refine Finset.sum_congr rfl fun m _ => congrArg (· * v m d) ?_
  rw [Ideal.div, Ideal.div, if_neg (weights_ne_zero q k h), if_neg (weights_ne_zero q k h), one_mul]

/-- The fold of the maximum from minus infinity is the supremum. -/
theorem fold_max (f : Fin 256 → EReal) : Finset.fold max (Ideal.ofBits .f32 0xFF800000#32) f Finset.univ = Finset.univ.sup f := by
  have e : Ideal.ofBits .f32 0xFF800000#32 = ⊥ := by simp [Ideal.ofBits, Ideal.ieee]
  rw [e]; rfl

end Cert.Mix
-- ==== Proof.GlaSums.lean ====
module

public import proofs.«01_k».proof.Proof.GlaBlock
public import proofs.«01_k».proof.Proof.Mix

/-!
# The kernel's running sums

Six doubling steps, each adding the array to itself moved down by 1, 2, …, 32 rows inside every chunk of 64, leave at each row
the sum of its chunk's rows up to it.
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

/-- The row's place in its chunk is its number modulo 64. -/
theorem pos_apply (r p : Fin 512) : pos (ix2 r p) = BitVec.ofNat 32 (r.val % 64) := by
  have : pos (ix2 r p) = pos (ix2 r 0) := rfl
  rw [this]
  clear this p
  revert r
  decide +kernel

/-- One doubling step: rows at least `s` down their chunk gain the row `s` above. -/
def dbl (s : BitVec 32) (T : A S512x512) : A S512x512 :=
  addf T (select (cmpi .sge pos (broadcast S512x512 s)) (dynamicRotate 0 s none T rotates_S512x512_d0)
    (broadcast S512x512 (Scalar.ofBits .f32 0x00000000#32)))

/-- The sums are the six steps. -/
theorem bc_eq (x0 : Vec Ideal S1x512x1024 .f32) (x1 : Vec Ideal S1024x3712 .bf16) (x2 : Vec Ideal S128x512 .bf16) (x3 : Vec Ideal S1x512 .f32) :
    bc x0 x1 x2 x3 = dbl 32#32 (dbl 16#32 (dbl 8#32 (dbl 4#32 (dbl 2#32 (dbl 1#32 (lg x0 x1 x2 x3)))))) := rfl

/-- One step at a row and a column, from which rows the step changes and which row it reads. -/
theorem dbl_apply (s : BitVec 32) (hs : s.toNat < 64) (T : A S512x512)
    (hm : ∀ r : Fin 512, cmpi .sge pos (broadcast S512x512 s) (ix2 r 0) = if s.toNat ≤ r.val % 64 then 1#1 else 0#1)
    (r p : Fin 512) :
    dbl s T (ix2 r p) = T (ix2 r p) + if s.toNat ≤ r.val % 64 then T (ix2 ⟨(r.val + 512 - s.toNat) % 512, by omega⟩ p) else 0 := by
  have hr : dynamicRotate 0 s none T rotates_S512x512_d0 (ix2 r p) = T (ix2 ⟨(r.val + 512 - s.toNat) % 512, by omega⟩ p) := by
    pointwise
    exact congrArg T (congrArg (fun q => ix2 q p) (Fin.ext (show (r.val + 512 - s.toNat % 512) % 512 = (r.val + 512 - s.toNat) % 512 by
      rw [Nat.mod_eq_of_lt (show s.toNat < 512 by omega)])))
  have hm' : cmpi .sge pos (broadcast S512x512 s) (ix2 r p) = if s.toNat ≤ r.val % 64 then 1#1 else 0#1 := hm r
  generalize hM : cmpi .sge pos (broadcast S512x512 s) = M at hm'
  generalize hR : dynamicRotate 0 s none T rotates_S512x512_d0 = R at hr
  unfold dbl
  rw [hM, hR]
  pointwise [hm', hr]
  split <;> rfl

/-- A function of the rows summed over the `w` rows that end at `r`, within the chunk. -/
def win (f : ℕ → EReal) (w r : ℕ) : EReal := ∑ j ∈ Finset.range (min w (r % 64 + 1)), f (r - j)

/-- A doubling step doubles the window. -/
theorem win_double (f : ℕ → EReal) (s r : ℕ) :
    win f s r + (if s ≤ r % 64 then win f s (r - s) else 0) = win f (2 * s) r := by
  unfold win
  split
  · next h =>
    have e : (r - s) % 64 = r % 64 - s := by omega
    rw [e, show min s (r % 64 + 1) = s by omega, show min (2 * s) (r % 64 + 1) = s + min s (r % 64 - s + 1) by omega, Finset.sum_range_add]
    congr 1
    exact Finset.sum_congr rfl fun j _ => congrArg f (by omega)
  · next h => rw [add_zero, show min s (r % 64 + 1) = r % 64 + 1 by omega, show min (2 * s) (r % 64 + 1) = r % 64 + 1 by omega]

/-- The widest window is the whole chunk up to the row. -/
theorem win_chunk (f : ℕ → EReal) (c : ℕ) (i : Fin 64) : win f 64 (64 * c + i.val) = Mix.cum (fun j => f (64 * c + j.val)) i := by
  unfold win Mix.cum
  rw [show min 64 ((64 * c + i.val) % 64 + 1) = i.val + 1 by omega]
  trans ∑ j ∈ Finset.range (i.val + 1), f (64 * c + j)
  · rw [← Finset.sum_flip]
    exact Finset.sum_congr rfl fun j hj => congrArg f (by have := Finset.mem_range.mp hj; omega)
  · rw [Finset.sum_fin_eq_sum_range, ← Finset.sum_subset (Finset.range_subset_range.mpr (show i.val + 1 ≤ 64 by omega))]
    · refine Finset.sum_congr rfl fun j hj => ?_
      have := Finset.mem_range.mp hj
      rw [dif_pos (by omega), if_pos (show (⟨j, _⟩ : Fin 64) ≤ i from Fin.le_def.mpr (by show j ≤ i.val; omega))]
    · intro j hj hj'
      have := Finset.mem_range.mp hj
      have h2 : ¬ j < i.val + 1 := fun h => hj' (Finset.mem_range.mpr h)
      rw [dif_pos this, if_neg fun h => h2 (by have := Fin.le_def.mp h; simp only at this; omega)]

/-- The kernel's sums are the chunk's sums. -/
theorem bc_apply (x0 : Vec Ideal S1x512x1024 .f32) (x1 : Vec Ideal S1024x3712 .bf16) (x2 : Vec Ideal S128x512 .bf16) (x3 : Vec Ideal S1x512 .f32)
    (c : Fin 8) (i : Fin 64) (p : Fin 512) :
    bc x0 x1 x2 x3 (ix2 ⟨64 * c.val + i.val, by omega⟩ p)
      = Mix.cum (fun j => lg x0 x1 x2 x3 (ix2 ⟨64 * c.val + j.val, by omega⟩ p)) i := by
  rw [bc_eq]
  generalize lg x0 x1 x2 x3 = L
  let f : ℕ → EReal := fun r => if h : r < 512 then L (ix2 ⟨r, h⟩ p) else 0
  have base : ∀ r : Fin 512, L (ix2 r p) = win f 1 r.val := fun r => by
    unfold win
    rw [show min 1 (r.val % 64 + 1) = 1 by omega, Finset.sum_range_one]
    show L (ix2 r p) = if h : r.val < 512 then L (ix2 ⟨r.val, h⟩ p) else 0
    rw [dif_pos r.isLt]
  have step : ∀ (s : BitVec 32) (w : ℕ) (T : A S512x512), s.toNat = w → w < 64 →
      (∀ r : Fin 512, cmpi .sge pos (broadcast S512x512 s) (ix2 r 0) = if s.toNat ≤ r.val % 64 then 1#1 else 0#1) →
      (∀ r : Fin 512, T (ix2 r p) = win f w r.val) → ∀ r : Fin 512, dbl s T (ix2 r p) = win f (2 * w) r.val := by
    rintro s w T rfl hw hm hT r
    rw [dbl_apply s hw T hm, hT, hT, ← win_double]
    congr 1
    split
    · exact congrArg (win f s.toNat) (show (r.val + 512 - s.toNat) % 512 = r.val - s.toNat by omega)
    · rfl
  have h1 := step 1#32 1 L rfl (by decide) (by decide +kernel) base
  have h2 := step 2#32 2 _ rfl (by decide) (by decide +kernel) h1
  have h4 := step 4#32 4 _ rfl (by decide) (by decide +kernel) h2
  have h8 := step 8#32 8 _ rfl (by decide) (by decide +kernel) h4
  have h16 := step 16#32 16 _ rfl (by decide) (by decide +kernel) h8
  have h32 := step 32#32 32 _ rfl (by decide) (by decide +kernel) h16
  rw [h32]
  refine (win_chunk f c.val i).trans ?_
  refine congrArg (fun l => Mix.cum l i) (funext fun j => dif_pos (show 64 * c.val + j.val < 512 by omega))

end Cert.KernelIdeal.Gla
-- ==== Proof.GlaCalc.lean ====
module

public import proofs.«01_k».proof.Proof.GlaSums

/-!
# A block of the mixer kernel, value by value
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

section Pre
variable (x0 : Vec Ideal S1x512x1024 .f32) (x1 : Vec Ideal S1024x3712 .bf16) (x2 : Vec Ideal S128x512 .bf16) (x3 : Vec Ideal S1x512 .f32)

/-- A row's product with a column of the joined projection. -/
theorem hx_apply (r : Fin 512) (p : Fin 3712) : hx x0 x1 (ix2 r p) = ∑ k : Fin 1024, x0 (ix3 0 r k) * x1 (ix2 k p) := by
  pointwise [hx, k0_pay4, k0_pay3]

/-- The columns read for the gate are the last 128. -/
theorem gateCols_apply (H : A S512x3712) (r : Fin 512) (k : Fin 128) :
    loadAt H (Rect.unit (s := S512x3712) ![0, 3584] S512x128.size inb_S512x3712_S512x128_0_3584) (ix2 r k) = H (ix2 r ⟨3584 + k.val, by omega⟩) := by
  refine congrArg H (funext fun a => Fin.ext ?_)
  match a with
  | ⟨0, _⟩ => show 0 + 1 * r.val = r.val; omega
  | ⟨1, _⟩ => show 3584 + 1 * k.val = 3584 + k.val; omega

/-- The queries' columns are the first 512. -/
theorem qCols_apply (H : A S512x3712) (r p : Fin 512) :
    loadAt H (Rect.unit (s := S512x3712) ![0, 0] S512x512.size inb_S512x3712_S512x512_0_0) (ix2 r p) = H (ix2 r ⟨p.val, by omega⟩) := by
  refine congrArg H (funext fun a => Fin.ext ?_)
  match a with
  | ⟨0, _⟩ => show 0 + 1 * r.val = r.val; omega
  | ⟨1, _⟩ => show 0 + 1 * p.val = p.val; omega

/-- The keys' columns are the next 512. -/
theorem kCols_apply (H : A S512x3712) (r p : Fin 512) :
    loadAt H (Rect.unit (s := S512x3712) ![0, 512] S512x512.size inb_S512x3712_S512x512_0_512) (ix2 r p) = H (ix2 r ⟨512 + p.val, by omega⟩) := by
  refine congrArg H (funext fun a => Fin.ext ?_)
  match a with
  | ⟨0, _⟩ => show 0 + 1 * r.val = r.val; omega
  | ⟨1, _⟩ => show 512 + 1 * p.val = 512 + p.val; omega

/-- The log decay of a row and key column, from the gate's columns. -/
theorem lg_apply (r p : Fin 512) :
    lg x0 x1 x2 x3 (ix2 r p)
      = Mix.logSig (∑ a : Fin 128, hx x0 x1 (ix2 r ⟨3584 + a.val, by omega⟩) * x2 (ix2 a p) + x3 (ix2 0 p)) := by
  have h := gateCols_apply (hx x0 x1) r
  unfold lg
  generalize loadAt (hx x0 x1) _ = G at h
  rw [← Mix.logSig_stable]
  simp only [← h]
  pointwise [k0_pay5]
  rfl

/-- The queries of a row, scaled and decayed. -/
theorem qe_apply (r p : Fin 512) :
    qe x0 x1 x2 x3 (ix2 r p) = hx x0 x1 (ix2 r ⟨p.val, by omega⟩) * Mix.scale * Ideal.exp (bc x0 x1 x2 x3 (ix2 r p)) := by
  have h := qCols_apply (hx x0 x1) r p
  unfold qe bc
  generalize loadAt (hx x0 x1) _ = G at h
  unfold k0_pay19
  generalize k0_pay10 (F := Ideal) _ _ _ _ _ = z
  pointwise [Mix.scale, h]

/-- The keys of a row with the decay taken out. -/
theorem ke_apply (r p : Fin 512) :
    ke x0 x1 x2 x3 (ix2 r p) = hx x0 x1 (ix2 r ⟨512 + p.val, by omega⟩) * Ideal.exp (-(bc x0 x1 x2 x3 (ix2 r p))) := by
  have h := kCols_apply (hx x0 x1) r p
  unfold ke bc
  generalize loadAt (hx x0 x1) _ = G at h
  unfold k0_pay20
  generalize k0_pay10 (F := Ideal) _ _ _ _ _ = z
  pointwise [h, zero_sub]

/-- The last row of each chunk, one after the other. -/
def lastRow (c : Fin 8) : A S1x512 :=
  extractStridedSlice S1x512 ![64 * c.val + 63, 0] (bc x0 x1 x2 x3)
    ⟨rfl, fun a => match a with
      | ⟨0, _⟩ => show 64 * c.val + 63 + 1 ≤ 512 by omega
      | ⟨1, _⟩ => show 0 + 512 ≤ 512 by omega⟩

/-- Its value at a column. -/
theorem lastRow_apply (c : Fin 8) (p : Fin 512) : lastRow x0 x1 x2 x3 c (ix2 0 p) = bc x0 x1 x2 x3 (ix2 ⟨64 * c.val + 63, by omega⟩ p) := by
  unfold lastRow
  generalize bc x0 x1 x2 x3 = z
  pointwise

/-- A chunk's last row, once for each row of the chunk. -/
def lastRows (c : Fin 8) : A S64x512 :=
  broadcastTo S64x512 (shapeCast S1x512 (lastRow x0 x1 x2 x3 c) shapeCasts_S1x512_S1x512) broadcasts_S1x512_S64x512

/-- Every row is the chunk's last. -/
theorem lastRows_apply (c : Fin 8) (i : Fin 64) (p : Fin 512) :
    lastRows x0 x1 x2 x3 c (ix2 i p) = bc x0 x1 x2 x3 (ix2 ⟨64 * c.val + 63, by omega⟩ p) := by
  have h := lastRow_apply x0 x1 x2 x3 c p
  unfold lastRows
  generalize lastRow x0 x1 x2 x3 c = l at h
  pointwise [h]

/-- The keys of a row decayed to the end of its chunk. -/
theorem kd_apply (c : Fin 8) (i : Fin 64) (p : Fin 512) :
    kd x0 x1 x2 x3 (ix2 ⟨64 * c.val + i.val, by omega⟩ p) = hx x0 x1 (ix2 ⟨64 * c.val + i.val, by omega⟩ ⟨512 + p.val, by omega⟩)
      * Ideal.exp (bc x0 x1 x2 x3 (ix2 ⟨64 * c.val + 63, by omega⟩ p) - bc x0 x1 x2 x3 (ix2 ⟨64 * c.val + i.val, by omega⟩ p)) := by
  have e : kd x0 x1 x2 x3 = mulf (loadAt (hx x0 x1) (Rect.unit (s := S512x3712) ![0, 512] S512x512.size inb_S512x3712_S512x512_0_512))
      (exp (subf (concatenate S512x512 0 [⟨S64x512, lastRows x0 x1 x2 x3 0⟩, ⟨S64x512, lastRows x0 x1 x2 x3 1⟩, ⟨S64x512, lastRows x0 x1 x2 x3 2⟩,
        ⟨S64x512, lastRows x0 x1 x2 x3 3⟩, ⟨S64x512, lastRows x0 x1 x2 x3 4⟩, ⟨S64x512, lastRows x0 x1 x2 x3 5⟩, ⟨S64x512, lastRows x0 x1 x2 x3 6⟩,
        ⟨S64x512, lastRows x0 x1 x2 x3 7⟩]
        concatenates_S64x512_S64x512_S64x512_S64x512_S64x512_S64x512_S64x512_S64x512_S512x512_d0 : A S512x512) (bc x0 x1 x2 x3))) := rfl
  have h := lastRows_apply x0 x1 x2 x3
  have hk := kCols_apply (hx x0 x1)
  rw [e, ← hk, ← h c i]
  generalize bc x0 x1 x2 x3 = z
  generalize loadAt (hx x0 x1) _ = G
  generalize lastRows x0 x1 x2 x3 = l
  clear h hk e
  have hc := c.isLt
  fin_cases c <;> pointwise
  all_goals
    repeat first | rw [dif_neg (by omega)] | rw [dif_pos (by omega)]
    refine congrArg (fun q => _ * Ideal.exp (l _ (ix2 q p) - _)) (Fin.ext ?_)
    show _ = i.val
    dsimp only
    omega

/-- A chunk's whole decay. -/
theorem dec_apply (p : Fin 512) (c : Fin 8) : dec x0 x1 x2 x3 (ix2 p c) = Ideal.exp (bc x0 x1 x2 x3 (ix2 ⟨64 * c.val + 63, by omega⟩ p)) := by
  have e : dec x0 x1 x2 x3 = transpose S512x8 [1, 0] (exp (concatenate S8x512 0 [⟨S1x512, lastRow x0 x1 x2 x3 0⟩, ⟨S1x512, lastRow x0 x1 x2 x3 1⟩,
    ⟨S1x512, lastRow x0 x1 x2 x3 2⟩, ⟨S1x512, lastRow x0 x1 x2 x3 3⟩, ⟨S1x512, lastRow x0 x1 x2 x3 4⟩, ⟨S1x512, lastRow x0 x1 x2 x3 5⟩,
    ⟨S1x512, lastRow x0 x1 x2 x3 6⟩, ⟨S1x512, lastRow x0 x1 x2 x3 7⟩]
    concatenates_S1x512_S1x512_S1x512_S1x512_S1x512_S1x512_S1x512_S1x512_S8x512_d0 : A S8x512)) transposes_S8x512_p1_0_S512x8 := rfl
  have h := lastRow_apply x0 x1 x2 x3
  rw [e]
  generalize lastRow x0 x1 x2 x3 = l at h
  fin_cases c <;> pointwise [h]
end Pre

section Chunk
variable (H : A S512x3712) (Q K : B S512x512) (D : A S512x512) (E : A S512x8)

/-- A chunk's values are columns 1024 + 256 h of the projection. -/
theorem cv_apply {c h : ℕ} (hc : c < 8) (hh : h < 4) (i : Fin 64) (e : Fin 256) :
    cv H hc hh (ix2 i e) = H (ix2 ⟨64 * c + i.val, by omega⟩ ⟨1024 + 256 * h + e.val, by omega⟩) := by
  refine congrArg H (funext fun a => Fin.ext ?_)
  match a with
  | ⟨0, _⟩ => show 64 * c + 1 * i.val = 64 * c + i.val; omega
  | ⟨1, _⟩ => show 1024 + 256 * h + 1 * e.val = 1024 + 256 * h + e.val; omega

/-- A chunk's window of the queries, keys or decayed keys. -/
theorem slice_apply (X : A S512x512) {c h : ℕ} (hc : c < 8) (hh : h < 4) (i : Fin 64) (d : Fin 128) :
    (extractStridedSlice S64x128 ![64 * c, 128 * h] X (sl_qk hc hh) : A S64x128) (ix2 i d)
      = X (ix2 ⟨64 * c + i.val, by omega⟩ ⟨128 * h + d.val, by omega⟩) := by
  pointwise

/-- The kernel's test for a place on or below the diagonal. -/
theorem diag : ∀ i j : Fin 64,
    IntOp.cmpi CmpIPredicate.sge (BitVec.ofNat 32 i.val) (BitVec.ofNat 32 j.val) = if j ≤ i then 1#1 else 0#1 := by
  decide +kernel

/-- The attention inside a chunk. -/
theorem catt_apply {c h : ℕ} (hc : c < 8) (hh : h < 4) (i j : Fin 64) :
    catt Q K hc hh (ix2 i j) = if j ≤ i then ∑ d : Fin 128, Q (ix2 ⟨64 * c + i.val, by omega⟩ ⟨128 * h + d.val, by omega⟩)
      * K (ix2 ⟨64 * c + j.val, by omega⟩ ⟨128 * h + d.val, by omega⟩) else 0 := by
  have hq := slice_apply Q hc hh i
  have hk := slice_apply K hc hh j
  unfold catt
  simp only [← hq, ← hk]
  generalize (extractStridedSlice S64x128 ![64 * c, 128 * h] Q (sl_qk hc hh) : A S64x128) = q
  generalize (extractStridedSlice S64x128 ![64 * c, 128 * h] K (sl_qk hc hh) : A S64x128) = k
  pointwise [k0_pay121, k0_pay24]
  rw [diag]
  split <;> rfl

/-- What a chunk adds to the state. -/
theorem cupd_apply {c h : ℕ} (hc : c < 8) (hh : h < 4) (d : Fin 128) (e : Fin 256) :
    cupd H D hc hh (ix2 d e) = ∑ i : Fin 64, D (ix2 ⟨64 * c + i.val, by omega⟩ ⟨128 * h + d.val, by omega⟩) * cv H hc hh (ix2 i e) := by
  unfold cupd
  generalize cv H hc hh = v
  pointwise

/-- The state a chunk leaves. -/
theorem cnext_apply {c h : ℕ} (hc : c < 8) (hh : h < 4) (s : A S128x256) (d : Fin 128) (e : Fin 256) :
    cnext H D E hc hh s (ix2 d e) = s (ix2 d e) * E (ix2 ⟨128 * h + d.val, by omega⟩ ⟨c, hc⟩) + cupd H D hc hh (ix2 d e) := by
  unfold cnext
  generalize cupd H D hc hh = u
  pointwise

/-- A chunk's outputs. -/
theorem cout_apply {c h : ℕ} (hc : c < 8) (hh : h < 4) (s : A S128x256) (i : Fin 64) (e : Fin 256) :
    cout H Q K hc hh s (ix2 i e) = ∑ j, catt Q K hc hh (ix2 i j) * cv H hc hh (ix2 j e)
      + ∑ d : Fin 128, Q (ix2 ⟨64 * c + i.val, by omega⟩ ⟨128 * h + d.val, by omega⟩) * s (ix2 d e) := by
  unfold cout
  generalize catt Q K hc hh = a
  generalize cv H hc hh = v
  pointwise [k0_pay153]

/-- One head's part of the state buffer. -/
theorem loadState_apply (X : A S4x128x256) {h : ℕ} (hh : h < 4) (d : Fin 128) (e : Fin 256) :
    (loadAt X (Rect.unit (s := S4x128x256) ![h, 0, 0] S1x128x256.size (in_st hh)) : A S1x128x256) (ix3 0 d e) = X (ix3 ⟨h, hh⟩ d e) := by
  refine congrArg X (funext fun a => Fin.ext ?_)
  match a with
  | ⟨0, _⟩ => show h + 1 * 0 = h; omega
  | ⟨1, _⟩ => show 0 + 1 * d.val = d.val; omega
  | ⟨2, _⟩ => show 0 + 1 * e.val = e.val; omega

/-- A head's state in the buffer. -/
theorem ldst_apply (X : A S4x128x256) {h : ℕ} (hh : h < 4) (d : Fin 128) (e : Fin 256) :
    ldst X hh (ix2 d e) = X (ix3 ⟨h, hh⟩ d e) := by
  have key : ∀ G : A S1x128x256, (shapeCast S128x256 G shapeCasts_S1x128x256_S128x256 : A S128x256) (ix2 d e) = G (ix3 0 d e) := fun G => by
    pointwise
  exact (key _).trans (loadState_apply X hh d e)

/-- Row `i` of chunk `c` of a block. -/
def row (c : ℕ) (i : Fin 64) : Fin 512 := ⟨(64 * c + i.val) % 512, Nat.mod_lt _ (by decide)⟩

/-- Column `d` of head `h`. -/
def col (h : Fin 4) (d : Fin 128) : Fin 512 := ⟨128 * h.val + d.val, by omega⟩

/-- For a chunk of the block nothing is cut off. -/
theorem row_eq {c : ℕ} (hc : c < 8) (i : Fin 64) : row c i = ⟨64 * c + i.val, by omega⟩ :=
  Fin.ext (Nat.mod_eq_of_lt (by omega))

/-- The decayed keys of chunk `c` and head `h`. -/
def kdC (h : Fin 4) (c : ℕ) (i : Fin 64) (d : Fin 128) : EReal := D (ix2 (row c i) (col h d))

/-- The whole decay of chunk `c` and head `h`. -/
def decC (h : Fin 4) (c : ℕ) (d : Fin 128) : EReal := E (ix2 (col h d) ⟨c % 8, Nat.mod_lt _ (by decide)⟩)

/-- The values of chunk `c` and head `h`. -/
def vC (h : Fin 4) (c : ℕ) (i : Fin 64) (e : Fin 256) : EReal := H (ix2 (row c i) ⟨1024 + 256 * h.val + e.val, by omega⟩)

/-- The head's state after `c` chunks is the mathematics' state. -/
theorem cst_apply (h : Fin 4) (s : A S128x256) (S : Fin 128 → Fin 256 → EReal) (hs : ∀ d e, s (ix2 d e) = S d e) (c : ℕ) (hc : c ≤ 8) :
    ∀ (d : Fin 128) (e : Fin 256), cst H D E h.isLt s c hc (ix2 d e) = Mix.state S (kdC D h) (decC E h) (vC H h) c d e := by
  induction c with
  | zero => exact hs
  | succ c ih =>
    intro d e
    have hc' : c < 8 := hc
    show cnext H D E hc' h.isLt _ (ix2 d e) = Mix.next _ _ _ _ d e
    rw [cnext_apply, cupd_apply, ih, Mix.next]
    refine congrArg₂ (· + ·) (congrArg _ ?_) (Finset.sum_congr rfl fun i _ => ?_)
    · exact congrArg E (congrArg (ix2 _) (Fin.ext (Nat.mod_eq_of_lt hc').symm))
    · rw [cv_apply, kdC, vC, row_eq hc']; rfl

/-- A chunk's outputs are the mathematics' outputs. -/
theorem cout_spec (h : Fin 4) {c : ℕ} (hc : c < 8) (s : A S128x256) (S : Fin 128 → Fin 256 → EReal) (hs : ∀ d e, s (ix2 d e) = S d e)
    (i : Fin 64) (e : Fin 256) :
    cout H Q K hc h.isLt s (ix2 i e) = Mix.out (kdC Q h c) (kdC K h c) (vC H h c) S i e := by
  rw [cout_apply, Mix.out]
  simp only [catt_apply, cv_apply, hs, kdC, vC, row_eq hc]
  rfl

/-- What a list of pieces leaves, when those before `L₂` agree with `G` and one of them covers the place. -/
theorem canon_append {S : Shape} (G : A S) (L₁ L₂ : List (View.Piece (Elt Ideal) S .f32))
    (hp : ∀ p ∈ L₁, ∀ x : p.1.shape.Idx, p.2 x = G (p.1.emb x)) (y : S.Idx) (hy : ∃ p ∈ L₁, y ∈ p.1.set) :
    View.canon (L₁ ++ L₂) y = G y := by
  induction L₁ with
  | nil => obtain ⟨p, h, _⟩ := hy; cases h
  | cons p L ih =>
    by_cases hm : y ∈ p.1.set
    · obtain ⟨x, rfl⟩ := p.1.exists_idx_of_mem hm
      rw [show p.1.idx x = p.1.emb x from rfl, List.cons_append, View.canon_cons_emb]
      exact hp p (List.mem_cons_self ..) x
    · rw [List.cons_append, View.canon_cons_of_not_mem _ _ hm]
      refine ih (fun q hq => hp q (List.mem_cons_of_mem _ hq)) ?_
      obtain ⟨q, hq, hyq⟩ := hy
      rcases List.mem_cons.1 hq with rfl | hq
      · exact absurd hyq hm
      · exact ⟨q, hq, hyq⟩

/-- The mathematics' state of every head after the block's chunks, as a buffer. -/
def stG (X : A S4x128x256) : A S4x128x256 := fun y =>
  Mix.state (fun d e => X (ix3 (y 0) d e)) (kdC D (y 0)) (decC E (y 0)) (vC H (y 0)) 8 (y 1) (y 2)

/-- A head's piece of the state buffer. -/
theorem stPiece_eq (X : A S4x128x256) (h : Fin 4) (x : (stPiece H D E X h.isLt).1.shape.Idx) :
    (stPiece H D E X h.isLt).2 x = stG H D E X ((stPiece H D E X h.isLt).1.emb x) := by
  have key : ∀ (s : A S128x256) (x : S1x128x256.Idx), (shapeCast S1x128x256 s shapeCasts_S128x256_S1x128x256 : A S1x128x256) x = s (ix2 (x 1) (x 2)) := by
    intro s x
    obtain ⟨a, d, e, rfl⟩ : ∃ a d e, x = ix3 a d e := ⟨_, _, _, ValueIdx.eq_ix3 x⟩
    obtain rfl : a = 0 := Subsingleton.elim _ _
    pointwise
  have he : (stPiece H D E X h.isLt).1.emb x = (ix3 h (x 1) (x 2) : S4x128x256.Idx) := funext fun a => Fin.ext (by
    have h0 : (x 0).val = 0 := Nat.lt_one_iff.1 (x 0).isLt
    match a with
    | ⟨0, _⟩ => show h.val + 1 * (x 0).val = h.val; omega
    | ⟨1, _⟩ => show 0 + 1 * (x 1).val = (x 1).val; omega
    | ⟨2, _⟩ => show 0 + 1 * (x 2).val = (x 2).val; omega)
  rw [he]
  exact (key _ x).trans (cst_apply H D E h _ _ (fun d e => ldst_apply X h.isLt d e) 8 le_rfl (x 1) (x 2))

/-- Every head's piece holds the head's places. -/
theorem stPiece_mem (X : A S4x128x256) (h : Fin 4) (y : S4x128x256.Idx) (hy : y 0 = h) : y ∈ (stPiece H D E X h.isLt).1.set := by
  show y ∈ (Rect.unit (s := S4x128x256) ![h.val, 0, 0] S1x128x256.size (in_st h.isLt)).set
  refine Rect.mem_set_unit.2 fun a => ?_
  match a with
  | ⟨0, _⟩ => show h.val ≤ (y 0).val ∧ (y 0).val < h.val + 1; rw [hy]; omega
  | ⟨1, _⟩ => exact ⟨Nat.zero_le _, by show (y 1).val < 0 + 128; have := (y 1).isLt; change _ < 128 at this; omega⟩
  | ⟨2, _⟩ => exact ⟨Nat.zero_le _, by show (y 2).val < 0 + 256; have := (y 2).isLt; change _ < 256 at this; omega⟩

/-- The state buffer the block leaves. -/
theorem canon_state (X : A S4x128x256) (L : List (View.Piece (Elt Ideal) S4x128x256 .f32)) (y : S4x128x256.Idx) :
    View.canon (stPieces H D E X ++ L) y = stG H D E X y := by
  refine canon_append _ _ _ (fun p hp => ?_) y ?_
  · simp only [stPieces, List.mem_cons, List.not_mem_nil, or_false] at hp
    rcases hp with rfl | rfl | rfl | rfl
    · exact stPiece_eq H D E X 3
    · exact stPiece_eq H D E X 2
    · exact stPiece_eq H D E X 1
    · exact stPiece_eq H D E X 0
  · refine ⟨stPiece H D E X (y 0).isLt, ?_, stPiece_mem H D E X (y 0) y rfl⟩
    generalize (y 0 : Fin 4) = h
    fin_cases h <;> simp [stPieces]

/-- Chunk and head of a place in the output buffer, and the mathematics' output there. -/
def ocG (X : A S4x128x256) (r : Fin 512) (p : Fin 1024) : EReal :=
  have h : Fin 4 := ⟨p.val / 256, by omega⟩
  Mix.out (kdC Q h (r.val / 64)) (kdC K h (r.val / 64)) (vC H h (r.val / 64))
    (Mix.state (fun d e => X (ix3 h d e)) (kdC D h) (decC E h) (vC H h) (r.val / 64))
    ⟨r.val % 64, Nat.mod_lt _ (by decide)⟩ ⟨p.val % 256, Nat.mod_lt _ (by decide)⟩

/-- The output at a place given by its chunk, row, head and column. -/
theorem ocG_at (X : A S4x128x256) {r : Fin 512} {p : Fin 1024} {c : ℕ} {h : Fin 4} {i : Fin 64} {e : Fin 256}
    (hr : r.val = 64 * c + i.val) (hp : p.val = 256 * h.val + e.val) :
    ocG H Q K D E X r p = Mix.out (kdC Q h c) (kdC K h c) (vC H h c)
      (Mix.state (fun d e => X (ix3 h d e)) (kdC D h) (decC E h) (vC H h) c) i e := by
  have a1 : r.val / 64 = c := by omega
  have a2 : (⟨p.val / 256, by omega⟩ : Fin 4) = h := Fin.ext (by show p.val / 256 = h.val; omega)
  have a3 : (⟨r.val % 64, Nat.mod_lt _ (by decide)⟩ : Fin 64) = i := Fin.ext (by show r.val % 64 = i.val; omega)
  have a4 : (⟨p.val % 256, Nat.mod_lt _ (by decide)⟩ : Fin 256) = e := Fin.ext (by show p.val % 256 = e.val; omega)
  rw [ocG, a1, a2, a3, a4]

/-- A chunk's and head's piece of the output buffer. -/
theorem ocPiece_eq (X : A S4x128x256) {c : ℕ} (hc : c < 8) (h : Fin 4) (x : (ocPiece H Q K D E X hc h.isLt).1.shape.Idx) :
    (ocPiece H Q K D E X hc h.isLt).2 x = (fun y : S512x1024.Idx => ocG H Q K D E X (y 0) (y 1)) ((ocPiece H Q K D E X hc h.isLt).1.emb x) := by
  have key := cout_spec H Q K h hc (cst H D E h.isLt (ldst X h.isLt) c (Nat.le_of_lt hc)) _
    (fun d e => cst_apply H D E h _ _ (fun d e => ldst_apply X h.isLt d e) c (Nat.le_of_lt hc) d e) (x 0) (x 1)
  have hx : x = (ix2 (x 0) (x 1) : S64x256.Idx) := ValueIdx.eq_ix2 (n0 := 64) (n1 := 256) x
  refine ((congrArg (ocPiece H Q K D E X hc h.isLt).2 hx).trans key).trans (ocG_at H Q K D E X ?_ ?_).symm
  · show 64 * c + 1 * (x 0).val = 64 * c + (x 0).val; omega
  · show 256 * h.val + 1 * (x 1).val = 256 * h.val + (x 1).val; omega

/-- Every piece of the first `c` chunks is some chunk's and head's. -/
theorem ocPieces_mem (X : A S4x128x256) (c : ℕ) (hc : c ≤ 8) (p : View.Piece (Elt Ideal) S512x1024 .f32) (hp : p ∈ ocPieces H Q K D E X c hc) :
    ∃ (b : ℕ) (hb : b < 8) (h : Fin 4), p = ocPiece H Q K D E X hb h.isLt := by
  induction c with
  | zero => cases hp
  | succ c ih =>
    simp only [ocPieces, List.mem_cons] at hp
    rcases hp with rfl | rfl | rfl | rfl | hp
    · exact ⟨c, hc, 3, rfl⟩
    · exact ⟨c, hc, 2, rfl⟩
    · exact ⟨c, hc, 1, rfl⟩
    · exact ⟨c, hc, 0, rfl⟩
    · exact ih _ hp

/-- Every chunk's and head's piece is among them. -/
theorem mem_ocPieces (X : A S4x128x256) (c : ℕ) (hc : c ≤ 8) (b : ℕ) (hb : b < c) (h : Fin 4) :
    ocPiece H Q K D E X (Nat.lt_of_lt_of_le hb hc) h.isLt ∈ ocPieces H Q K D E X c hc := by
  induction c with
  | zero => omega
  | succ c ih =>
    rcases Nat.lt_succ_iff_lt_or_eq.1 hb with hb' | rfl
    · exact List.mem_cons_of_mem _ (List.mem_cons_of_mem _ (List.mem_cons_of_mem _ (List.mem_cons_of_mem _ (ih _ hb'))))
    · fin_cases h <;> simp [ocPieces]

/-- The output buffer once the chunks are done. -/
theorem ocs_apply (X : A S4x128x256) (r : Fin 512) (p : Fin 1024) : ocs H Q K D E X (ix2 r p) = ocG H Q K D E X r p := by
  refine View.canon_apply_of_pieces (Val := Elt Ideal) (e := .f32) (fun y : S512x1024.Idx => ocG H Q K D E X (y 0) (y 1)) _ (fun q hq x => ?_) _ ?_
  · obtain ⟨b, hb, h, rfl⟩ := ocPieces_mem H Q K D E X 8 le_rfl q hq
    exact ocPiece_eq H Q K D E X hb h x
  · refine ⟨_, mem_ocPieces H Q K D E X 8 le_rfl (r.val / 64) (by omega) ⟨p.val / 256, by omega⟩, ?_⟩
    show _ ∈ (Rect.unit (s := S512x1024) ![64 * (r.val / 64), 256 * (p.val / 256)] S64x256.size (in_oc (c := r.val / 64) (h := p.val / 256) (by omega) (by omega))).set
    refine Rect.mem_set_unit.2 fun a => ?_
    match a with
    | ⟨0, _⟩ => show 64 * (r.val / 64) ≤ r.val ∧ r.val < 64 * (r.val / 64) + 64; omega
    | ⟨1, _⟩ => show 256 * (p.val / 256) ≤ p.val ∧ p.val < 256 * (p.val / 256) + 256; omega

end Chunk

section Rest
variable (H : A S512x3712) (OC : A S512x1024) (x4 : Vec Ideal S1x256 .f32) (x5 : Vec Ideal S1x1x256x1024 .bf16)

/-- Head `h`'s outputs in the buffer. -/
theorem loadOut_apply {h : ℕ} (hh : h < 4) (r : Fin 512) (e : Fin 256) :
    (loadAt OC (Rect.unit (s := S512x1024) ![0, 256 * h] S512x256.size (in_o hh)) : A S512x256) (ix2 r e) = OC (ix2 r ⟨256 * h + e.val, by omega⟩) := by
  refine congrArg OC (funext fun a => Fin.ext ?_)
  match a with
  | ⟨0, _⟩ => show 0 + 1 * r.val = r.val; omega
  | ⟨1, _⟩ => show 256 * h + 1 * e.val = 256 * h + e.val; omega

/-- Head `h`'s columns of the output gate. -/
theorem loadGate_apply {h : ℕ} (hh : h < 4) (r : Fin 512) (e : Fin 256) :
    (loadAt H (Rect.unit (s := S512x3712) ![0, 2048 + 256 * h] S512x256.size (in_r hh)) : A S512x256) (ix2 r e)
      = H (ix2 r ⟨2048 + 256 * h + e.val, by omega⟩) := by
  refine congrArg H (funext fun a => Fin.ext ?_)
  match a with
  | ⟨0, _⟩ => show 0 + 1 * r.val = r.val; omega
  | ⟨1, _⟩ => show 2048 + 256 * h + 1 * e.val = 2048 + 256 * h + e.val; omega

/-- A head's outputs, normed and gated. -/
theorem gate_apply {h : ℕ} (hh : h < 4) (r : Fin 512) (e : Fin 256) :
    gate H OC x4 hh (ix2 r e) = Mix.gated (fun e => OC (ix2 r ⟨256 * h + e.val, by omega⟩)) (fun e => x4 (ix2 0 e))
      (fun e => H (ix2 r ⟨2048 + 256 * h + e.val, by omega⟩)) e := by
  have key : ∀ o g : A S512x256, k0_pay263 (F := Ideal) x4 o g (ix2 r e)
      = Mix.gated (fun e => o (ix2 r e)) (fun e => x4 (ix2 0 e)) (fun e => g (ix2 r e)) e := fun o g => by
    pointwise [k0_pay263, k0_pay262, Mix.gated]
  exact (key _ _).trans (congrArg₂ (fun o g => Mix.gated o _ g e) (funext fun e => loadOut_apply OC hh r e) (funext fun e => loadGate_apply H hh r e))

/-- The columns that ask the memory. -/
theorem qm_apply (r p : Fin 512) : qm H (ix2 r p) = H (ix2 r ⟨3072 + p.val, by omega⟩) := by
  refine congrArg H (funext fun a => Fin.ext ?_)
  match a with
  | ⟨0, _⟩ => show 0 + 1 * r.val = r.val; omega
  | ⟨1, _⟩ => show 3072 + 1 * p.val = 3072 + p.val; omega

/-- A memory block's columns. -/
theorem loadMem_apply {o : ℕ} (ho : o < 8) (m : Fin 256) (d : Fin 128) :
    (View.ld x5 (Rect.unit (s := S1x1x256x1024) ![0, 0, 0, 128 * o] S1x1x256x128.size (in_kv ho)) : B S1x1x256x128) (ix4 0 0 m d)
      = x5 (ix4 0 0 m ⟨128 * o + d.val, by omega⟩) := by
  refine congrArg x5 (funext fun a => Fin.ext ?_)
  match a with
  | ⟨0, _⟩ => show 0 + 1 * 0 = 0; omega
  | ⟨1, _⟩ => show 0 + 1 * 0 = 0; omega
  | ⟨2, _⟩ => show 0 + 1 * m.val = m.val; omega
  | ⟨3, _⟩ => show 128 * o + 1 * d.val = 128 * o + d.val; omega

/-- A memory head's outputs, when the scores are real numbers. -/
theorem mem_apply {j : ℕ} (hj : j < 4) (r : Fin 512) (d : Fin 128)
    (hf : ∀ m, Mix.score (fun d => H (ix2 r ⟨3072 + 128 * j + d.val, by omega⟩)) (fun m d => x5 (ix4 0 0 m ⟨128 * j + d.val, by omega⟩)) m ≠ ⊤
      ∧ Mix.score (fun d => H (ix2 r ⟨3072 + 128 * j + d.val, by omega⟩)) (fun m d => x5 (ix4 0 0 m ⟨128 * j + d.val, by omega⟩)) m ≠ ⊥) :
    mem H x5 hj (ix2 r d) = Mix.memory (fun d => H (ix2 r ⟨3072 + 128 * j + d.val, by omega⟩))
      (fun m d => x5 (ix4 0 0 m ⟨128 * j + d.val, by omega⟩)) (fun m d => x5 (ix4 0 0 m ⟨512 + 128 * j + d.val, by omega⟩)) d := by
  have key : ∀ (q : B S512x128) (k : B S256x128) (v : B S1x1x256x128), k0_pay270 (F := Ideal) q k v (ix2 r d)
      = ∑ m, Mix.weight (fun d => q (ix2 r d)) (fun m d => k (ix2 m d)) m * Ideal.div 1 (∑ m', Mix.weight (fun d => q (ix2 r d)) (fun m d => k (ix2 m d)) m')
        * v (ix4 0 0 m d) := fun q k v => by
    simp only [Mix.weight, ← Mix.fold_max]
    pointwise [k0_pay270, Mix.score, Mix.scale]
  have kq : ∀ d : Fin 128, (truncf .bf16 (extractStridedSlice S512x128 ![0, 128 * j] (qm H) (sl_m hj) : A S512x128) bitsLt_bf16_f32 : B S512x128) (ix2 r d)
      = H (ix2 r ⟨3072 + 128 * j + d.val, by omega⟩) := fun d => by
    have h := qm_apply H r ⟨128 * j + d.val, by omega⟩
    generalize qm H = Q at h
    pointwise [h]
    exact congrArg H (congrArg (ix2 r) (Fin.ext (by show 3072 + (128 * j + d.val) = 3072 + 128 * j + d.val; omega)))
  have kk : ∀ (m : Fin 256) (d : Fin 128) (o : ℕ) (ho : o < 8),
      (shapeCast S256x128 (View.ld x5 (Rect.unit (s := S1x1x256x1024) ![0, 0, 0, 128 * o] S1x1x256x128.size (in_kv ho)) : B S1x1x256x128)
        shapeCasts_S1x1x256x128_S256x128 : B S256x128) (ix2 m d) = x5 (ix4 0 0 m ⟨128 * o + d.val, by omega⟩) := fun m d o ho => by
    have key : ∀ G : B S1x1x256x128, (shapeCast S256x128 G shapeCasts_S1x1x256x128_S256x128 : B S256x128) (ix2 m d) = G (ix4 0 0 m d) := fun G => by
      pointwise
    exact (key _).trans (loadMem_apply x5 ho m d)
  have kv : ∀ (m : Fin 256), (View.ld x5 (Rect.unit (s := S1x1x256x1024) ![0, 0, 0, 128 * (4 + j)] S1x1x256x128.size (in_kv (by omega))) : B S1x1x256x128)
      (ix4 0 0 m d) = x5 (ix4 0 0 m ⟨512 + 128 * j + d.val, by omega⟩) := fun m =>
    (loadMem_apply x5 (by omega) m d).trans (congrArg x5 (congrArg (ix4 0 0 m) (Fin.ext (by show 128 * (4 + j) + d.val = 512 + 128 * j + d.val; omega))))
  rw [← Mix.memory_eq _ _ _ hf]
  refine (key _ _ _).trans ?_
  rw [funext kq, funext fun m => funext fun d => kk m d j (by omega)]
  exact Finset.sum_congr rfl fun m _ => congrArg (_ * ·) (kv m)

/-- The first 1024 columns are the four heads' outputs. -/
theorem cat_gate (r : Fin 512) (h : Fin 4) (e : Fin 256) :
    cat H OC x4 x5 (ix2 r ⟨256 * h.val + e.val, by omega⟩) = gate H OC x4 h.isLt (ix2 r e) := by
  unfold cat
  generalize mem H x5 (j := 0) _ = m0
  generalize mem H x5 (j := 1) _ = m1
  generalize mem H x5 (j := 2) _ = m2
  generalize mem H x5 (j := 3) _ = m3
  have hh := h.isLt
  fin_cases h
  all_goals
    show concatenate _ _ _ _ (ix2 r _) = gate H OC x4 _ (ix2 r e)
    generalize gate H OC x4 (h := 0) _ = g0
    generalize gate H OC x4 (h := 1) _ = g1
    generalize gate H OC x4 (h := 2) _ = g2
    generalize gate H OC x4 (h := 3) _ = g3
    pointwise
  all_goals
    repeat first | rw [dif_neg (by omega)] | rw [dif_pos (by omega)]
    refine congrArg _ (congrArg (ix2 r) (Fin.ext ?_))
    show _ = e.val
    dsimp only
    omega

/-- The last 512 columns are the four memory heads' outputs. -/
theorem cat_mem (r : Fin 512) (j : Fin 4) (d : Fin 128) :
    cat H OC x4 x5 (ix2 r ⟨1024 + (128 * j.val + d.val), by omega⟩) = mem H x5 j.isLt (ix2 r d) := by
  unfold cat
  generalize gate H OC x4 (h := 0) _ = g0
  generalize gate H OC x4 (h := 1) _ = g1
  generalize gate H OC x4 (h := 2) _ = g2
  generalize gate H OC x4 (h := 3) _ = g3
  have hh := j.isLt
  fin_cases j
  all_goals
    show concatenate _ _ _ _ (ix2 r _) = mem H x5 _ (ix2 r d)
    generalize mem H x5 (j := 0) _ = m0
    generalize mem H x5 (j := 1) _ = m1
    generalize mem H x5 (j := 2) _ = m2
    generalize mem H x5 (j := 3) _ = m3
    pointwise
  all_goals
    repeat first | rw [dif_neg (by omega)] | rw [dif_pos (by omega)]
    refine congrArg _ (congrArg (ix2 r) (Fin.ext ?_))
    show _ = d.val
    dsimp only
    omega

/-- The norm at a row and a column is the row's layer norm. -/
theorem norm_apply (z : A S512x1024) (g b : A S1x1024) (r : Fin 512) (d : Fin 1024) :
    norm z g b (ix2 r d) = Rows.layerNorm (fun k => z (ix2 r k)) (fun k => g (ix2 0 k)) (fun k => b (ix2 0 k)) d := by
  pointwise [norm, Rows.layerNorm, Rows.mean]

/-- The residual stream at a row and a column. -/
theorem resid_apply (x0 : Vec Ideal S1x512x1024 .f32) (y : B S512x1536) (w : Vec Ideal S1x1536x1024 .bf16) (r : Fin 512) (d : Fin 1024) :
    resid x0 y w (ix2 r d) = Ideal.ofBits .f32 0x3FD744FD#32 * x0 (ix3 0 r d) + ∑ p : Fin 1536, y (ix2 r p) * w (ix3 0 p d) := by
  pointwise [resid]

/-- The block's result at a row and a column. -/
theorem finish_apply (x0 : Vec Ideal S1x512x1024 .f32) (x6 : Vec Ideal S1x1536x1024 .bf16) (x7 x8 : Vec Ideal S1x1024 .f32) (r : Fin 512) (d : Fin 1024) :
    finish H OC x4 x5 x0 x6 x7 x8 (ix3 0 r d) = Rows.layerNorm (fun d => Ideal.ofBits .f32 0x3FD744FD#32 * x0 (ix3 0 r d)
      + ∑ p : Fin 1536, cat H OC x4 x5 (ix2 r p) * x6 (ix3 0 p d)) (fun k => x7 (ix2 0 k)) (fun k => x8 (ix2 0 k)) d := by
  have hz := resid_apply x0 (cat H OC x4 x5) x6 r
  simp only [← hz]
  clear hz
  unfold finish
  generalize resid x0 (cat H OC x4 x5) x6 = z
  have e : ∀ v : Vec Ideal S1x1024 .f32, (shapeCast S1x1024 v shapeCasts_S1x1024_S1x1024 : A S1x1024) = v := fun v => by
    funext i; rw [ValueIdx.eq_ix2 i]; pointwise
  rw [e, e, ← norm_apply]
  generalize norm z x7 x8 = n
  pointwise

end Rest
end Cert.KernelIdeal.Gla
-- ==== Proof.Mixer.lean ====
module

public import proofs.«01_k».proof.Proof.Mix

/-!
# The mixer of one sequence

One sequence's tokens, the weights and the memory's keys and values, and the sequence's result: token by token the
projections and the log decay, chunk by chunk the heads' outputs and states, then the gate, the memory, the last projection
and the layer norm.
-/

@[expose] public section
noncomputable section
open Idealize.ShloMosaic
namespace Cert.Mix

/-- What the mixer reads for one sequence. -/
structure Data where
  /-- The tokens. -/
  x : Fin 4096 → Fin 1024 → EReal
  /-- The joined input projection: queries, keys, values, output gate, decay gate, memory queries. -/
  w : Fin 1024 → Fin 3600 → EReal
  /-- The decay gate's second projection. -/
  g : Fin 16 → Fin 512 → EReal
  /-- The decay gate's offset. -/
  bg : Fin 512 → EReal
  /-- The gain of the heads' outputs. -/
  gain : Fin 256 → EReal
  /-- The memory's keys, then its values. -/
  kv : Fin 256 → Fin 1024 → EReal
  /-- The last projection. -/
  wo : Fin 1536 → Fin 1024 → EReal
  /-- The layer norm's gain. -/
  lg : Fin 1024 → EReal
  /-- The layer norm's offset. -/
  lb : Fin 1024 → EReal

variable (D : Data)

/-- Token `i` of chunk `n`. -/
def tok (n : ℕ) (i : Fin 64) : Fin 4096 := ⟨(64 * n + i.val) % 4096, Nat.mod_lt _ (by decide)⟩

/-- A token's projection on a column. -/
def proj (t : Fin 4096) (p : Fin 3600) : EReal := ∑ k, D.x t k * D.w k p

/-- A token's log decay at a key column. -/
def decay (t : Fin 4096) (p : Fin 512) : EReal :=
  logSig (∑ a : Fin 16, proj D t ⟨3072 + a.val, by omega⟩ * D.g a p + D.bg p)

/-- The log decay summed along chunk `n` up to row `i`. -/
def bcum (n : ℕ) (i : Fin 64) (p : Fin 512) : EReal := cum (fun j => decay D (tok n j) p) i

/-- Key column `d` of head `h`. -/
def keyCol (h : Fin 4) (d : Fin 128) : Fin 512 := ⟨128 * h.val + d.val, by omega⟩

/-- The queries of head `h` and chunk `n`, scaled and decayed. -/
def qe (h : Fin 4) (n : ℕ) (i : Fin 64) (d : Fin 128) : EReal :=
  proj D (tok n i) ⟨128 * h.val + d.val, by omega⟩ * scale * Ideal.exp (bcum D n i (keyCol h d))

/-- The keys with the decay taken out. -/
def ke (h : Fin 4) (n : ℕ) (i : Fin 64) (d : Fin 128) : EReal :=
  proj D (tok n i) ⟨512 + (128 * h.val + d.val), by omega⟩ * Ideal.exp (-bcum D n i (keyCol h d))

/-- The keys decayed to the end of the chunk. -/
def kd (h : Fin 4) (n : ℕ) (i : Fin 64) (d : Fin 128) : EReal :=
  proj D (tok n i) ⟨512 + (128 * h.val + d.val), by omega⟩ * Ideal.exp (bcum D n 63 (keyCol h d) - bcum D n i (keyCol h d))

/-- The chunk's whole decay. -/
def dec (h : Fin 4) (n : ℕ) (d : Fin 128) : EReal := Ideal.exp (bcum D n 63 (keyCol h d))

/-- The values. -/
def vals (h : Fin 4) (n : ℕ) (i : Fin 64) (e : Fin 256) : EReal := proj D (tok n i) ⟨1024 + 256 * h.val + e.val, by omega⟩

/-- The head's state before chunk `n`. -/
def stateAt (h : Fin 4) (n : ℕ) : Fin 128 → Fin 256 → EReal := state (fun _ _ => 0) (kd D h) (dec D h) (vals D h) n

/-- The head's output at row `i` of chunk `n`. -/
def outAt (h : Fin 4) (n : ℕ) (i : Fin 64) (e : Fin 256) : EReal := out (qe D h n) (ke D h n) (vals D h n) (stateAt D h n) i e

/-- The head's gated output at row `i` of chunk `n`. -/
def gatedAt (h : Fin 4) (n : ℕ) (i : Fin 64) (e : Fin 256) : EReal :=
  gated (outAt D h n i) D.gain (fun e => proj D (tok n i) ⟨2048 + 256 * h.val + e.val, by omega⟩) e

/-- A token's query of memory head `j`. -/
def memQ (t : Fin 4096) (j : Fin 4) (d : Fin 128) : EReal := proj D t ⟨3088 + 128 * j.val + d.val, by omega⟩

/-- The memory's keys of head `j`. -/
def memK (j : Fin 4) (m : Fin 256) (d : Fin 128) : EReal := D.kv m ⟨128 * j.val + d.val, by omega⟩

/-- The memory's values of head `j`. -/
def memV (j : Fin 4) (m : Fin 256) (d : Fin 128) : EReal := D.kv m ⟨512 + 128 * j.val + d.val, by omega⟩

/-- Memory head `j`'s output for a token. -/
def memAt (t : Fin 4096) (j : Fin 4) (d : Fin 128) : EReal := memory (memQ D t j) (memK D j) (memV D j) d

/-- The memory's scores are real numbers. -/
def Finite : Prop := ∀ t j m, score (memQ D t j) (memK D j) m ≠ ⊤ ∧ score (memQ D t j) (memK D j) m ≠ ⊥

/-- The residual row at row `i` of chunk `n`. -/
def residAt (n : ℕ) (i : Fin 64) (d : Fin 1024) : EReal :=
  Ideal.ofBits .f32 0x3FD744FD#32 * D.x (tok n i) d
    + (∑ p : Fin 1024, gatedAt D ⟨p.val / 256, by omega⟩ n i ⟨p.val % 256, Nat.mod_lt _ (by decide)⟩ * D.wo ⟨p.val, by omega⟩ d
      + ∑ p : Fin 512, memAt D (tok n i) ⟨p.val / 128, by omega⟩ ⟨p.val % 128, Nat.mod_lt _ (by decide)⟩ * D.wo ⟨1024 + p.val, by omega⟩ d)

/-- The mixer's result at row `i` of chunk `n`. -/
def resultAt (n : ℕ) (i : Fin 64) (d : Fin 1024) : EReal := Rows.layerNorm (residAt D n i) D.lg D.lb d

/-- A sum over 1536 terms, the first 1024 and the others. -/
theorem sum_split (f : Fin 1536 → EReal) :
    ∑ p, f p = ∑ p : Fin 1024, f ⟨p.val, by omega⟩ + ∑ p : Fin 512, f ⟨1024 + p.val, by omega⟩ :=
  Fin.sum_univ_add (a := 1024) (b := 512) f

/-- A sum over 128 terms of which those past the 16th are zero. -/
theorem sum_pad (f : Fin 128 → EReal) (h : ∀ a : Fin 112, f ⟨16 + a.val, by omega⟩ = 0) : ∑ a, f a = ∑ a : Fin 16, f ⟨a.val, by omega⟩ := by
  refine (Fin.sum_univ_add (a := 16) (b := 112) f).trans ?_
  have e : ∑ a : Fin 112, f (Fin.natAdd 16 a) = 0 := Finset.sum_eq_zero fun a _ => h a
  rw [e, add_zero]
  rfl

end Cert.Mix
-- ==== Proof.GlaLink.lean ====
module

public import proofs.«01_k».proof.Proof.GlaCalc
public import proofs.«01_k».proof.Proof.Mixer

/-!
# A block of the mixer kernel is eight chunks of the mathematics
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

/-- The inputs of block `b` of a sequence are that sequence's tokens, weights and memory, the projection's columns in the
kernel's order. -/
structure Inputs (D : Mix.Data) (b : ℕ) (x0 : Vec Ideal S1x512x1024 .f32) (x1 : Vec Ideal S1024x3712 .bf16) (x2 : Vec Ideal S128x512 .bf16)
    (x3 : Vec Ideal S1x512 .f32) (x4 : Vec Ideal S1x256 .f32) (x5 : Vec Ideal S1x1x256x1024 .bf16) (x6 : Vec Ideal S1x1536x1024 .bf16)
    (x7 x8 : Vec Ideal S1x1024 .f32) : Prop where
  /-- The block is one of the sequence's. -/
  hb : b < 8
  /-- The block's tokens. -/
  tokens : ∀ (c : Fin 8) (i : Fin 64) (k : Fin 1024), x0 (ix3 0 ⟨64 * c.val + i.val, by omega⟩ k) = D.x (Mix.tok (8 * b + c.val) i) k
  /-- Queries, keys, values and output gate. -/
  main : ∀ (k : Fin 1024) (p : Fin 3072), x1 (ix2 k ⟨p.val, by omega⟩) = D.w k ⟨p.val, by omega⟩
  /-- Memory queries. -/
  asks : ∀ (k : Fin 1024) (p : Fin 512), x1 (ix2 k ⟨3072 + p.val, by omega⟩) = D.w k ⟨3088 + p.val, by omega⟩
  /-- The decay gate. -/
  gate : ∀ (k : Fin 1024) (p : Fin 16), x1 (ix2 k ⟨3584 + p.val, by omega⟩) = D.w k ⟨3072 + p.val, by omega⟩
  /-- The decay gate's second projection. -/
  second : ∀ (a : Fin 16) (p : Fin 512), x2 (ix2 ⟨a.val, by omega⟩ p) = D.g a p
  /-- Its other rows are zero. -/
  pad : ∀ (a : Fin 112) (p : Fin 512), x2 (ix2 ⟨16 + a.val, by omega⟩ p) = 0
  /-- Its offset. -/
  offset : ∀ p : Fin 512, x3 (ix2 0 p) = D.bg p
  /-- The gain of the heads' outputs. -/
  gain : ∀ e : Fin 256, x4 (ix2 0 e) = D.gain e
  /-- The memory. -/
  memory : ∀ (m : Fin 256) (d : Fin 1024), x5 (ix4 0 0 m d) = D.kv m d
  /-- The last projection. -/
  last : ∀ (p : Fin 1536) (d : Fin 1024), x6 (ix3 0 p d) = D.wo p d
  /-- The layer norm's gain. -/
  lnGain : ∀ d : Fin 1024, x7 (ix2 0 d) = D.lg d
  /-- The layer norm's offset. -/
  lnOffset : ∀ d : Fin 1024, x8 (ix2 0 d) = D.lb d

variable {D : Mix.Data} {b : ℕ} {x0 : Vec Ideal S1x512x1024 .f32} {x1 : Vec Ideal S1024x3712 .bf16} {x2 : Vec Ideal S128x512 .bf16}
  {x3 : Vec Ideal S1x512 .f32} {x4 : Vec Ideal S1x256 .f32} {x5 : Vec Ideal S1x1x256x1024 .bf16} {x6 : Vec Ideal S1x1536x1024 .bf16}
  {x7 x8 : Vec Ideal S1x1024 .f32}

namespace Inputs
variable (I : Inputs D b x0 x1 x2 x3 x4 x5 x6 x7 x8)
include I

/-- The columns of queries, keys, values and output gate. -/
theorem hx_main (c : Fin 8) (i : Fin 64) (p : Fin 3712) (p' : Fin 3600) (hp : p.val < 3072) (hpp : p'.val = p.val) :
    hx x0 x1 (ix2 ⟨64 * c.val + i.val, by omega⟩ p) = Mix.proj D (Mix.tok (8 * b + c.val) i) p' := by
  rw [hx_apply, Mix.proj]
  refine Finset.sum_congr rfl fun k _ => ?_
  rw [I.tokens]
  refine congrArg _ ((I.main k ⟨p.val, hp⟩).trans (congrArg (D.w k) (Fin.ext hpp.symm)))

/-- The columns of the memory queries. -/
theorem hx_asks (c : Fin 8) (i : Fin 64) (p : Fin 3712) (p' : Fin 3600) (hp : 3072 ≤ p.val) (hp3 : p.val < 3584) (hpp : p'.val = p.val + 16) :
    hx x0 x1 (ix2 ⟨64 * c.val + i.val, by omega⟩ p) = Mix.proj D (Mix.tok (8 * b + c.val) i) p' := by
  rw [hx_apply, Mix.proj]
  refine Finset.sum_congr rfl fun k _ => ?_
  rw [I.tokens]
  have e : p = ⟨3072 + (⟨p.val - 3072, by omega⟩ : Fin 512).val, by show 3072 + (p.val - 3072) < 3712; omega⟩ := Fin.ext (by show p.val = 3072 + (p.val - 3072); omega)
  have e' : p' = ⟨3088 + (⟨p.val - 3072, by omega⟩ : Fin 512).val, by show 3088 + (p.val - 3072) < 3600; omega⟩ := Fin.ext (by show p'.val = 3088 + (p.val - 3072); omega)
  exact congrArg _ ((congrArg (fun q => x1 (ix2 k q)) e).trans ((I.asks k _).trans (congrArg (D.w k) e'.symm)))

/-- The log decay. -/
theorem lg_eq (c : Fin 8) (i : Fin 64) (p : Fin 512) :
    lg x0 x1 x2 x3 (ix2 ⟨64 * c.val + i.val, by omega⟩ p) = Mix.decay D (Mix.tok (8 * b + c.val) i) p := by
  rw [lg_apply, Mix.decay, I.offset, Mix.sum_pad]
  · refine congrArg (fun s => Mix.logSig (s + D.bg p)) (Finset.sum_congr rfl fun a _ => ?_)
    refine congrArg₂ (· * ·) ?_ (I.second a p)
    rw [hx_apply, Mix.proj]
    refine Finset.sum_congr rfl fun k _ => ?_
    rw [I.tokens]
    exact congrArg _ (I.gate k a)
  · intro a
    exact (congrArg (_ * ·) (I.pad a p)).trans (mul_zero _)

/-- The log decay summed along a chunk. -/
theorem bc_eq (c : Fin 8) (i : Fin 64) (p : Fin 512) :
    bc x0 x1 x2 x3 (ix2 ⟨64 * c.val + i.val, by omega⟩ p) = Mix.bcum D (8 * b + c.val) i p := by
  rw [bc_apply, Mix.bcum]
  exact congrArg (fun f => Mix.cum f i) (funext fun j => I.lg_eq c j p)

/-- The queries. -/
theorem qe_eq (h : Fin 4) (c : Fin 8) : kdC (qe x0 x1 x2 x3) h c.val = Mix.qe D h (8 * b + c.val) := by
  funext i d
  rw [kdC, row_eq c.isLt, qe_apply, Mix.qe, I.bc_eq]
  exact congrArg (fun z => z * Mix.scale * _) (I.hx_main c i _ _ (by show 128 * h.val + d.val < 3072; omega) rfl)

/-- The keys. -/
theorem ke_eq (h : Fin 4) (c : Fin 8) : kdC (ke x0 x1 x2 x3) h c.val = Mix.ke D h (8 * b + c.val) := by
  funext i d
  rw [kdC, row_eq c.isLt, ke_apply, Mix.ke, I.bc_eq]
  exact congrArg (· * _) (I.hx_main c i _ _ (by show 512 + (128 * h.val + d.val) < 3072; omega) rfl)

/-- The decayed keys. -/
theorem kd_eq (h : Fin 4) (c : Fin 8) : kdC (kd x0 x1 x2 x3) h c.val = Mix.kd D h (8 * b + c.val) := by
  funext i d
  have h63 := I.bc_eq c 63 (col h d)
  rw [kdC, row_eq c.isLt, kd_apply, Mix.kd, I.bc_eq]
  exact congrArg₂ (fun z w => z * Ideal.exp (w - _)) (I.hx_main c i _ _ (by show 512 + (128 * h.val + d.val) < 3072; omega) rfl) h63

/-- A chunk's whole decay. -/
theorem dec_eq (h : Fin 4) (c : Fin 8) : decC (dec x0 x1 x2 x3) h c.val = Mix.dec D h (8 * b + c.val) := by
  funext d
  have h63 := I.bc_eq c 63 (col h d)
  have ec : (⟨c.val % 8, Nat.mod_lt _ (by decide)⟩ : Fin 8) = c := Fin.ext (Nat.mod_eq_of_lt c.isLt)
  rw [decC, ec, dec_apply, Mix.dec]
  exact congrArg Ideal.exp h63

/-- The values. -/
theorem v_eq (h : Fin 4) (c : Fin 8) : vC (hx x0 x1) h c.val = Mix.vals D h (8 * b + c.val) := by
  funext i e
  rw [vC, row_eq c.isLt, Mix.vals]
  exact I.hx_main c i _ _ (by show 1024 + 256 * h.val + e.val < 3072; omega) rfl

/-- The states inside the block. -/
theorem state_eq (h : Fin 4) (X : A S4x128x256) (hX : ∀ d e, X (ix3 h d e) = Mix.stateAt D h (8 * b) d e) (c : ℕ) (hc : c ≤ 8) :
    Mix.state (fun d e => X (ix3 h d e)) (kdC (kd x0 x1 x2 x3) h) (decC (dec x0 x1 x2 x3) h) (vC (hx x0 x1) h) c = Mix.stateAt D h (8 * b + c) := by
  rw [show (fun d e => X (ix3 h d e)) = Mix.stateAt D h (8 * b) from funext fun d => funext fun e => hX d e, Mix.stateAt, Mix.stateAt, Mix.state_add]
  exact Mix.state_congr c (fun a ha => I.kd_eq h ⟨a, by omega⟩) (fun a ha => I.dec_eq h ⟨a, by omega⟩) (fun a ha => I.v_eq h ⟨a, by omega⟩)

/-- The state the block leaves. -/
theorem blockState_eq (X : A S4x128x256) (L : List (View.Piece (Elt Ideal) S4x128x256 .f32))
    (hX : ∀ h d e, X (ix3 h d e) = Mix.stateAt D h (8 * b) d e) (h : Fin 4) (d : Fin 128) (e : Fin 256) :
    blockState x0 x1 x2 x3 X L (ix3 h d e) = Mix.stateAt D h (8 * (b + 1)) d e := by
  rw [blockState, canon_state]
  exact congrFun (congrFun (I.state_eq h X (hX h) 8 le_rfl) d) e

/-- The heads' outputs. -/
theorem ocs_eq (X : A S4x128x256) (hX : ∀ h d e, X (ix3 h d e) = Mix.stateAt D h (8 * b) d e) (c : Fin 8) (i : Fin 64) (h : Fin 4) (e : Fin 256) :
    ocs (hx x0 x1) (qe x0 x1 x2 x3) (ke x0 x1 x2 x3) (kd x0 x1 x2 x3) (dec x0 x1 x2 x3) X
      (ix2 ⟨64 * c.val + i.val, by omega⟩ ⟨256 * h.val + e.val, by omega⟩) = Mix.outAt D h (8 * b + c.val) i e := by
  rw [ocs_apply, ocG_at (c := c.val) (h := h) (i := i) (e := e) _ _ _ _ _ _ rfl rfl, I.qe_eq, I.ke_eq, I.v_eq, I.state_eq h X (hX h) c.val c.isLt.le]
  rfl

/-- The block's result. -/
theorem blockOut_eq (hf : Mix.Finite D) (X : A S4x128x256) (hX : ∀ h d e, X (ix3 h d e) = Mix.stateAt D h (8 * b) d e)
    (c : Fin 8) (i : Fin 64) (d : Fin 1024) :
    blockOut x0 x1 x2 x3 x4 x5 x6 x7 x8 X (ix3 0 ⟨64 * c.val + i.val, by omega⟩ d) = Mix.resultAt D (8 * b + c.val) i d := by
  have ho := I.ocs_eq X hX c i
  rw [blockOut, finish_apply, Mix.resultAt]
  generalize ocs (hx x0 x1) (qe x0 x1 x2 x3) (ke x0 x1 x2 x3) (kd x0 x1 x2 x3) (dec x0 x1 x2 x3) X = OC at ho
  rw [show (fun k => x7 (ix2 0 k)) = D.lg from funext I.lnGain, show (fun k => x8 (ix2 0 k)) = D.lb from funext I.lnOffset]
  refine congrArg (fun z => Rows.layerNorm z D.lg D.lb d) (funext fun d => ?_)
  rw [Mix.residAt, I.tokens, Mix.sum_split]
  refine congrArg₂ (fun y m => _ + (y + m)) (Finset.sum_congr rfl fun p _ => congrArg₂ (· * ·) ?_ (I.last _ _))
    (Finset.sum_congr rfl fun p _ => congrArg₂ (· * ·) ?_ (I.last _ _))
  · have ep : (⟨p.val, by omega⟩ : Fin 1536) = ⟨256 * (⟨p.val / 256, by omega⟩ : Fin 4).val + (⟨p.val % 256, Nat.mod_lt _ (by decide)⟩ : Fin 256).val,
        by show 256 * (p.val / 256) + p.val % 256 < 1536; omega⟩ := Fin.ext (by show p.val = 256 * (p.val / 256) + p.val % 256; omega)
    rw [ep, cat_gate, gate_apply, Mix.gatedAt]
    generalize (⟨p.val / 256, by omega⟩ : Fin 4) = h
    generalize (⟨p.val % 256, Nat.mod_lt _ (by decide)⟩ : Fin 256) = e
    have e1 : (fun e : Fin 256 => OC (ix2 ⟨64 * c.val + i.val, by omega⟩ ⟨256 * h.val + e.val, by omega⟩)) = Mix.outAt D h (8 * b + c.val) i := funext fun e => ho h e
    have e2 : (fun e : Fin 256 => hx x0 x1 (ix2 ⟨64 * c.val + i.val, by omega⟩ ⟨2048 + 256 * h.val + e.val, by omega⟩))
        = fun e : Fin 256 => Mix.proj D (Mix.tok (8 * b + c.val) i) ⟨2048 + 256 * h.val + e.val, by omega⟩ :=
      funext fun e => I.hx_main c i _ _ (by show 2048 + 256 * h.val + e.val < 3072; omega) rfl
    rw [show (fun e => x4 (ix2 0 e)) = D.gain from funext I.gain, e1, e2]
  · have ep : (⟨1024 + p.val, by omega⟩ : Fin 1536) = ⟨1024 + (128 * (⟨p.val / 128, by omega⟩ : Fin 4).val + (⟨p.val % 128, Nat.mod_lt _ (by decide)⟩ : Fin 128).val),
        by show 1024 + (128 * (p.val / 128) + p.val % 128) < 1536; omega⟩ := Fin.ext (by show 1024 + p.val = 1024 + (128 * (p.val / 128) + p.val % 128); omega)
    rw [ep, cat_mem, Mix.memAt]
    generalize (⟨p.val / 128, by omega⟩ : Fin 4) = j
    generalize (⟨p.val % 128, Nat.mod_lt _ (by decide)⟩ : Fin 128) = e
    have eq : (fun d : Fin 128 => hx x0 x1 (ix2 ⟨64 * c.val + i.val, by omega⟩ ⟨3072 + 128 * j.val + d.val, by omega⟩)) = Mix.memQ D (Mix.tok (8 * b + c.val) i) j :=
      funext fun d => I.hx_asks c i _ _ (by show 3072 ≤ 3072 + 128 * j.val + d.val; omega) (by show 3072 + 128 * j.val + d.val < 3584; omega)
        (by show 3088 + 128 * j.val + d.val = 3072 + 128 * j.val + d.val + 16; omega)
    have ek : (fun (m : Fin 256) (d : Fin 128) => x5 (ix4 0 0 m ⟨128 * j.val + d.val, by omega⟩)) = Mix.memK D j :=
      funext fun m => funext fun d => I.memory m _
    have ev : (fun (m : Fin 256) (d : Fin 128) => x5 (ix4 0 0 m ⟨512 + 128 * j.val + d.val, by omega⟩)) = Mix.memV D j :=
      funext fun m => funext fun d => I.memory m _
    rw [mem_apply, eq, ek, ev]
    intro m
    rw [eq, ek]
    exact hf _ j m

end Inputs
end Cert.KernelIdeal.Gla
-- ==== Proof.GlaHost.lean ====
module

public import proofs.«01_k».proof.Proof.GlaLink
public import Idealize.ShloMosaic.Lib.StableHlo.Run
public import Idealize.ShloMosaic.Lib.KernelVsHost

/-!
# What the mixer kernel is handed

The operations before the kernel put the projection's columns in the kernel's order, pad the decay gate's second
projection with rows of zeros, and turn vectors into rows.
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

variable (m : (ℓ : Loc nD τ sig) → Buf (Elt Ideal) ℓ) (c : Dev nD)

/-- The projection before its columns are put in order. -/
abbrev wIn : Vec Ideal S1024x3600 .f32 := m ((c : Thread nD τ).loc main_arg2)

/-- The decay gate's columns, padded with columns of zeros. -/
def gatePad : Vec Ideal S1024x128 .f32 :=
  pad S1024x128 ![0, 0] ![0, 112] ![0, 0] (extractStridedSlice S1024x16 ![0, 3072] (wIn m c) slices_S1024x3600_S1024x16_0_3072)
    ((sitofp (F := Ideal) .f32 (constantI S_ 32 0#32)) : Vec Ideal S_ .f32) pads_S1024x16_S1024x128_000_01120 h_S_

/-- The projection in the kernel's order. -/
theorem proj_eq : @Eq (Vec Ideal S1024x3712 .bf16) (V m c main_v6)
    (truncf (F := Ideal) .bf16 (concatenate S1024x3712 1 [⟨S1024x3072, extractStridedSlice S1024x3072 ![0, 0] (wIn m c) slices_S1024x3600_S1024x3072_0_0⟩,
        ⟨S1024x512, extractStridedSlice S1024x512 ![0, 3088] (wIn m c) slices_S1024x3600_S1024x512_0_3088⟩, ⟨S1024x128, gatePad m c⟩]
        concatenates_S1024x3072_S1024x512_S1024x128_S1024x3712_d1 : Vec Ideal S1024x3712 .f32) bitsLt_bf16_f32) := by
  show StableHlo.after _ _ (Proc.devRef .tc main_v6) = _
  simp only [List.flatten_cons, List.flatten_nil, List.cons_append, List.nil_append, List.append_nil]
  after_results
  rfl

/-- The decay gate's second projection, padded. -/
theorem second_eq : @Eq (Vec Ideal S128x512 .bf16) (V m c main_v8)
    (truncf (F := Ideal) .bf16 (pad S128x512 ![0, 0] ![112, 0] ![0, 0] (m ((c : Thread nD τ).loc main_arg3) : Vec Ideal S16x512 .f32)
      ((sitofp (F := Ideal) .f32 (constantI S_ 32 0#32)) : Vec Ideal S_ .f32) pads_S16x512_S128x512_01120_000 h_S_ : Vec Ideal S128x512 .f32) bitsLt_bf16_f32) := by
  show StableHlo.after _ _ (Proc.devRef .tc main_v8) = _
  simp only [List.flatten_cons, List.flatten_nil, List.cons_append, List.nil_append, List.append_nil]
  after_results
  rfl

/-- The columns of queries, keys, values and output gate. -/
theorem v6_main (k : Fin 1024) (p : Fin 3072) :
    (V m c main_v6 : Vec Ideal S1024x3712 .bf16) (ix2 k ⟨p.val, by omega⟩) = wIn m c (ix2 k ⟨p.val, by omega⟩) := by
  rw [proj_eq]
  generalize gatePad m c = G
  generalize wIn m c = W
  pointwise

/-- The columns of the memory queries. -/
theorem v6_asks (k : Fin 1024) (p : Fin 512) :
    (V m c main_v6 : Vec Ideal S1024x3712 .bf16) (ix2 k ⟨3072 + p.val, by omega⟩) = wIn m c (ix2 k ⟨3088 + p.val, by omega⟩) := by
  rw [proj_eq]
  generalize gatePad m c = G
  generalize wIn m c = W
  pointwise

/-- The columns of the decay gate. -/
theorem v6_gate (k : Fin 1024) (p : Fin 16) :
    (V m c main_v6 : Vec Ideal S1024x3712 .bf16) (ix2 k ⟨3584 + p.val, by omega⟩) = wIn m c (ix2 k ⟨3072 + p.val, by omega⟩) := by
  rw [proj_eq]
  have h : gatePad m c (ix2 k ⟨p.val, by omega⟩) = wIn m c (ix2 k ⟨3072 + p.val, by omega⟩) := by
    unfold gatePad
    rw [pad_apply_of_inside (k := ix2 k p)]
    · pointwise
    · intro a
      match a with
      | ⟨0, _⟩ => show k.val = 0 + k.val * (0 + 1); omega
      | ⟨1, _⟩ => show p.val = 0 + p.val * (0 + 1); omega
  rw [← h]
  generalize gatePad m c = G
  generalize wIn m c = W
  pointwise
  rw [dif_neg (by omega), dif_neg (by omega)]
  exact congrArg (fun q => G (ix2 k q)) (Fin.ext (by dsimp only; omega))

/-- The first rows of the padded second projection. -/
theorem v8_second (a : Fin 16) (p : Fin 512) :
    (V m c main_v8 : Vec Ideal S128x512 .bf16) (ix2 ⟨a.val, by omega⟩ p) = m ((c : Thread nD τ).loc main_arg3) (ix2 a p) := by
  rw [second_eq]
  refine (pad_apply_of_inside ![0, 0] ![112, 0] ![0, 0] _ _ pads_S16x512_S128x512_01120_000 h_S_ (ix2 ⟨a.val, by omega⟩ p) (ix2 a p) ?_).trans rfl
  intro b
  match b with
  | ⟨0, _⟩ => show a.val = 0 + a.val * (0 + 1); omega
  | ⟨1, _⟩ => show p.val = 0 + p.val * (0 + 1); omega

/-- Its other rows are zero. -/
theorem v8_pad (a : Fin 112) (p : Fin 512) :
    (V m c main_v8 : Vec Ideal S128x512 .bf16) (ix2 ⟨16 + a.val, by omega⟩ p) = (0 : EReal) := by
  rw [second_eq]
  refine (pad_apply_of_not_inside (s := S16x512) ![0, 0] ![112, 0] ![0, 0] _ _ pads_S16x512_S128x512_01120_000 h_S_ (ix2 ⟨16 + a.val, by omega⟩ p) 0 ?_).trans ?_
  rotate_left
  · show ((((0#32 : BitVec 32).toInt : ℤ) : ℝ) : EReal) = 0
    simp
  · show ¬(0 ≤ 16 + a.val ∧ (16 + a.val - 0) % (0 + 1) = 0 ∧ (16 + a.val - 0) / (0 + 1) < 16)
    omega

/-- The decay gate's offset as one row. -/
theorem v9_apply (k : Fin 512) : (V m c main_v9 : Vec Ideal S1x512 .f32) (ix2 0 k) = m ((c : Thread nD τ).loc main_arg4) (ix1 k) := by
  have h : (V m c main_v9 : Vec Ideal S1x512 .f32) = shapeCast S1x512 (m ((c : Thread nD τ).loc main_arg4) : Vec Ideal S512 .f32) shapeCasts_S512_S1x512 := by
    show StableHlo.after _ _ (Proc.devRef .tc main_v9) = _
    simp only [List.flatten_cons, List.flatten_nil, List.cons_append, List.nil_append, List.append_nil]
    after_results
    rfl
  rw [h]
  pointwise

/-- The gain of the heads' outputs as one row. -/
theorem v10_apply (k : Fin 256) : (V m c main_v10 : Vec Ideal S1x256 .f32) (ix2 0 k) = m ((c : Thread nD τ).loc main_arg5) (ix1 k) := by
  have h : (V m c main_v10 : Vec Ideal S1x256 .f32) = shapeCast S1x256 (m ((c : Thread nD τ).loc main_arg5) : Vec Ideal S256 .f32) shapeCasts_S256_S1x256 := by
    show StableHlo.after _ _ (Proc.devRef .tc main_v10) = _
    simp only [List.flatten_cons, List.flatten_nil, List.cons_append, List.nil_append, List.append_nil]
    after_results
    rfl
  rw [h]
  pointwise

/-- The layer norm's gain as one row. -/
theorem v11_apply (k : Fin 1024) : (V m c main_v11 : Vec Ideal S1x1024 .f32) (ix2 0 k) = m ((c : Thread nD τ).loc main_arg7) (ix1 k) := by
  have h : (V m c main_v11 : Vec Ideal S1x1024 .f32) = shapeCast S1x1024 (m ((c : Thread nD τ).loc main_arg7) : Vec Ideal S1024 .f32) shapeCasts_S1024_S1x1024 := by
    show StableHlo.after _ _ (Proc.devRef .tc main_v11) = _
    simp only [List.flatten_cons, List.flatten_nil, List.cons_append, List.nil_append, List.append_nil]
    after_results
    rfl
  rw [h]
  pointwise

/-- The layer norm's offset as one row. -/
theorem v12_apply (k : Fin 1024) : (V m c main_v12 : Vec Ideal S1x1024 .f32) (ix2 0 k) = m ((c : Thread nD τ).loc main_arg8) (ix1 k) := by
  have h : (V m c main_v12 : Vec Ideal S1x1024 .f32) = shapeCast S1x1024 (m ((c : Thread nD τ).loc main_arg8) : Vec Ideal S1024 .f32) shapeCasts_S1024_S1x1024 := by
    show StableHlo.after _ _ (Proc.devRef .tc main_v12) = _
    simp only [List.flatten_cons, List.flatten_nil, List.cons_append, List.nil_append, List.append_nil]
    after_results
    rfl
  rw [h]
  pointwise

/-- The last projection, a cast of the argument. -/
theorem v0_apply (p : Fin 1536) (d : Fin 1024) :
    (V m c main_v0 : Vec Ideal S2x1536x1024 .bf16) (ix3 0 p d) = m ((c : Thread nD τ).loc main_arg6) (ix3 0 p d) := by
  have h : @Eq (Vec Ideal S2x1536x1024 .bf16) (V m c main_v0) (truncf (F := Ideal) .bf16 (m ((c : Thread nD τ).loc main_arg6) : Vec Ideal S2x1536x1024 .f32) bitsLt_bf16_f32) := by
    show StableHlo.after _ _ (Proc.devRef .tc main_v0) = _
    simp only [List.flatten_cons, List.flatten_nil, List.cons_append, List.nil_append, List.append_nil]
    after_results
  rw [h]
  rfl

end Cert.KernelIdeal.Gla
-- ==== Proof.GlaOpen.lean ====
module

public import proofs.«01_k».proof.Proof.GlaBlock

/-!
# What a grid step of the mixer leaves is the block's result and state

The two generated cases (the first step of a batch, which zeroes the state, and every other) leave the same functions of
the step's inputs and of the state found.
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load after one store of the whole buffer of products reads what was stored. -/
theorem readCov_hx (v : View sig .tc .vmem S512x3712 .f32) (inb) (w : Vec Ideal S512x3712 .f32) (r : Rect S512x3712) :
    v.readCov [(⟨Rect.unit ![0, 0] ![512, 3712] inb, w⟩ : View.Piece (Elt Ideal) S512x3712 .f32)] r.toLoadRect = View.ld w r :=
  (View.readCov_eq_canon' v _ r.toLoadRect).trans
    (congrArg (fun w : Vec Ideal S512x3712 .f32 => View.ld w r) (View.canon_unit_zero (Val := Elt Ideal) (e := .f32) (S := S512x3712) hz2 inb w))

/-- The same of the state buffer. -/
theorem readCov_st (v : View sig .tc .vmem S4x128x256 .f32) (inb) (w : Vec Ideal S4x128x256 .f32) (r : Rect S4x128x256) :
    v.readCov [(⟨Rect.unit ![0, 0, 0] ![4, 128, 256] inb, w⟩ : View.Piece (Elt Ideal) S4x128x256 .f32)] r.toLoadRect = View.ld w r :=
  (View.readCov_eq_canon' v _ r.toLoadRect).trans
    (congrArg (fun w : Vec Ideal S4x128x256 .f32 => View.ld w r) (View.canon_unit_zero (Val := Elt Ideal) (e := .f32) (S := S4x128x256) hz3 inb w))

/-- A load of the output buffer reads the contents its pieces leave. -/
theorem readCov_oc (v : View sig .tc .vmem S512x1024 .f32) (L) (r : Rect S512x1024) :
    v.readCov (Val := Elt Ideal) L r.toLoadRect = View.ld (View.canon L) r := View.readCov_eq_canon' v L r.toLoadRect

/-- One store of the whole result leaves what was stored. -/
theorem canon_out (w : Vec Ideal S1x512x1024 .f32) (inb) :
    View.canon [(⟨Rect.unit ![0, 0, 0] ![1, 512, 1024] inb, w⟩ : View.Piece (Elt Ideal) S1x512x1024 .f32)] = w :=
  View.canon_unit_zero hz3 inb w

theorem ld_x0 (X : Vec Ideal S1x512x1024 .f32) (inb) : View.ld X (Rect.unit ![0, 0, 0] ![1, 512, 1024] inb) = X := View.ld_unit_zero hz3 inb X
theorem ld_x1 (X : Vec Ideal S1024x3712 .bf16) (inb) : View.ld X (Rect.unit ![0, 0] ![1024, 3712] inb) = X := View.ld_unit_zero hz2 inb X
theorem ld_x2 (X : Vec Ideal S128x512 .bf16) (inb) : View.ld X (Rect.unit ![0, 0] ![128, 512] inb) = X := View.ld_unit_zero hz2 inb X
theorem ld_x3 (X : Vec Ideal S1x512 .f32) (inb) : View.ld X (Rect.unit ![0, 0] ![1, 512] inb) = X := View.ld_unit_zero hz2 inb X
theorem ld_x4 (X : Vec Ideal S1x256 .f32) (inb) : View.ld X (Rect.unit ![0, 0] ![1, 256] inb) = X := View.ld_unit_zero hz2 inb X
theorem ld_x6 (X : Vec Ideal S1x1536x1024 .bf16) (inb) : View.ld X (Rect.unit ![0, 0, 0] ![1, 1536, 1024] inb) = X := View.ld_unit_zero hz3 inb X
theorem ld_x7 (X : Vec Ideal S1x1024 .f32) (inb) : View.ld X (Rect.unit ![0, 0] ![1, 1024] inb) = X := View.ld_unit_zero hz2 inb X

/-- The state left by a step that is not the first of its batch. -/
theorem state_B
    (c : Dev nD) (i : grid0.Coords) (arg2 : Memref sig .tc .vmem S1x512x1024 .f32) (harg2 : arg2.IsWhole)
    (arg3 : Memref sig .tc .vmem S1024x3712 .bf16) (harg3 : arg3.IsWhole) (arg4 : Memref sig .tc .vmem S128x512 .bf16)
    (harg4 : arg4.IsWhole) (arg5 : Memref sig .tc .vmem S1x512 .f32) (harg5 : arg5.IsWhole) (arg6 : Memref sig .tc .vmem S1x256 .f32)
    (harg6 : arg6.IsWhole) (arg7 : Memref sig .tc .vmem S1x1x256x1024 .bf16) (harg7 : arg7.IsWhole)
    (arg8 : Memref sig .tc .vmem S1x1536x1024 .bf16) (harg8 : arg8.IsWhole) (arg9 : Memref sig .tc .vmem S1x1024 .f32)
    (harg9 : arg9.IsWhole) (arg10 : Memref sig .tc .vmem S1x1024 .f32) (harg10 : arg10.IsWhole)
    (arg11 : Memref sig .tc .vmem S1x512x1024 .f32) (harg11 : arg11.IsWhole) (arg12 : Memref sig .tc .vmem S4x128x256 .f32)
    (harg12 : arg12.IsWhole) (arg13 : Memref sig .tc .vmem S512x3712 .f32) (harg13 : arg13.IsWhole)
    (arg14 : Memref sig .tc .vmem S512x1024 .f32) (harg14 : arg14.IsWhole) (hc0 : ¬cond0_0 i) (x0 : Vec Ideal S1x512x1024 .f32)
    (x1 : Vec Ideal S1024x3712 .bf16) (x2 : Vec Ideal S128x512 .bf16) (x3 : Vec Ideal S1x512 .f32) (x4 : Vec Ideal S1x256 .f32)
    (x5 : Vec Ideal S1x1x256x1024 .bf16) (x6 : Vec Ideal S1x1536x1024 .bf16) (x7 : Vec Ideal S1x1024 .f32) (x8 : Vec Ideal S1x1024 .f32)
    (xs0 : Vec Ideal S4x128x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0
      = blockState x0 x1 x2 x3 xs0 [] := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  unfold kernelRun0_B
  dsimp only
  sl_unfold_words
  simp only [readCov_hx, View.readAt_eq_ld, Memref.IsWhole.read_unread, ld_x0, ld_x1, ld_x2, ld_x3]
  rfl

/-- The state left by the first step of a batch: from zero. -/
theorem state_A
    (c : Dev nD) (i : grid0.Coords) (arg2 : Memref sig .tc .vmem S1x512x1024 .f32) (harg2 : arg2.IsWhole)
    (arg3 : Memref sig .tc .vmem S1024x3712 .bf16) (harg3 : arg3.IsWhole) (arg4 : Memref sig .tc .vmem S128x512 .bf16)
    (harg4 : arg4.IsWhole) (arg5 : Memref sig .tc .vmem S1x512 .f32) (harg5 : arg5.IsWhole) (arg6 : Memref sig .tc .vmem S1x256 .f32)
    (harg6 : arg6.IsWhole) (arg7 : Memref sig .tc .vmem S1x1x256x1024 .bf16) (harg7 : arg7.IsWhole)
    (arg8 : Memref sig .tc .vmem S1x1536x1024 .bf16) (harg8 : arg8.IsWhole) (arg9 : Memref sig .tc .vmem S1x1024 .f32)
    (harg9 : arg9.IsWhole) (arg10 : Memref sig .tc .vmem S1x1024 .f32) (harg10 : arg10.IsWhole)
    (arg11 : Memref sig .tc .vmem S1x512x1024 .f32) (harg11 : arg11.IsWhole) (arg12 : Memref sig .tc .vmem S4x128x256 .f32)
    (harg12 : arg12.IsWhole) (arg13 : Memref sig .tc .vmem S512x3712 .f32) (harg13 : arg13.IsWhole)
    (arg14 : Memref sig .tc .vmem S512x1024 .f32) (harg14 : arg14.IsWhole) (hc0 : cond0_0 i) (x0 : Vec Ideal S1x512x1024 .f32)
    (x1 : Vec Ideal S1024x3712 .bf16) (x2 : Vec Ideal S128x512 .bf16) (x3 : Vec Ideal S1x512 .f32) (x4 : Vec Ideal S1x256 .f32)
    (x5 : Vec Ideal S1x1x256x1024 .bf16) (x6 : Vec Ideal S1x1536x1024 .bf16) (x7 : Vec Ideal S1x1024 .f32) (x8 : Vec Ideal S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = blockState x0 x1 x2 x3 (k0_pay2 (F := Ideal)) [⟨Rect.unit (s := S4x128x256) ![0, 0, 0] S4x128x256.size inb_S4x128x256_S4x128x256_0_0_0, (k0_pay2 (F := Ideal))⟩] := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [readCov_hx, View.readAt_eq_ld, Memref.IsWhole.read_unread, ld_x0, ld_x1, ld_x2, ld_x3]
  simp only [readCov_st]
  rfl

/-- The block left by a step that is not the first of its batch. -/
theorem out_B
    (c : Dev nD) (i : grid0.Coords) (arg2 : Memref sig .tc .vmem S1x512x1024 .f32) (harg2 : arg2.IsWhole)
    (arg3 : Memref sig .tc .vmem S1024x3712 .bf16) (harg3 : arg3.IsWhole) (arg4 : Memref sig .tc .vmem S128x512 .bf16)
    (harg4 : arg4.IsWhole) (arg5 : Memref sig .tc .vmem S1x512 .f32) (harg5 : arg5.IsWhole) (arg6 : Memref sig .tc .vmem S1x256 .f32)
    (harg6 : arg6.IsWhole) (arg7 : Memref sig .tc .vmem S1x1x256x1024 .bf16) (harg7 : arg7.IsWhole)
    (arg8 : Memref sig .tc .vmem S1x1536x1024 .bf16) (harg8 : arg8.IsWhole) (arg9 : Memref sig .tc .vmem S1x1024 .f32)
    (harg9 : arg9.IsWhole) (arg10 : Memref sig .tc .vmem S1x1024 .f32) (harg10 : arg10.IsWhole)
    (arg11 : Memref sig .tc .vmem S1x512x1024 .f32) (harg11 : arg11.IsWhole) (arg12 : Memref sig .tc .vmem S4x128x256 .f32)
    (harg12 : arg12.IsWhole) (arg13 : Memref sig .tc .vmem S512x3712 .f32) (harg13 : arg13.IsWhole)
    (arg14 : Memref sig .tc .vmem S512x1024 .f32) (harg14 : arg14.IsWhole) (hc0 : ¬cond0_0 i) (x0 : Vec Ideal S1x512x1024 .f32)
    (x1 : Vec Ideal S1024x3712 .bf16) (x2 : Vec Ideal S128x512 .bf16) (x3 : Vec Ideal S1x512 .f32) (x4 : Vec Ideal S1x256 .f32)
    (x5 : Vec Ideal S1x1x256x1024 .bf16) (x6 : Vec Ideal S1x1536x1024 .bf16) (x7 : Vec Ideal S1x1024 .f32) (x8 : Vec Ideal S1x1024 .f32)
    (xs0 : Vec Ideal S4x128x256 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0
      = blockOut x0 x1 x2 x3 x4 x5 x6 x7 x8 xs0 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0)]
  unfold kernelRun0_B
  dsimp only
  sl_unfold_words
  sl_unfold_words
  simp only [readCov_hx, View.readAt_eq_ld, Memref.IsWhole.read_unread, ld_x0, ld_x1, ld_x2, ld_x3]
  simp only [readCov_oc, canon_out, ld_x4, ld_x6, ld_x7]
  rfl

/-- The block left by the first step of a batch. -/
theorem out_A
    (c : Dev nD) (i : grid0.Coords) (arg2 : Memref sig .tc .vmem S1x512x1024 .f32) (harg2 : arg2.IsWhole)
    (arg3 : Memref sig .tc .vmem S1024x3712 .bf16) (harg3 : arg3.IsWhole) (arg4 : Memref sig .tc .vmem S128x512 .bf16)
    (harg4 : arg4.IsWhole) (arg5 : Memref sig .tc .vmem S1x512 .f32) (harg5 : arg5.IsWhole) (arg6 : Memref sig .tc .vmem S1x256 .f32)
    (harg6 : arg6.IsWhole) (arg7 : Memref sig .tc .vmem S1x1x256x1024 .bf16) (harg7 : arg7.IsWhole)
    (arg8 : Memref sig .tc .vmem S1x1536x1024 .bf16) (harg8 : arg8.IsWhole) (arg9 : Memref sig .tc .vmem S1x1024 .f32)
    (harg9 : arg9.IsWhole) (arg10 : Memref sig .tc .vmem S1x1024 .f32) (harg10 : arg10.IsWhole)
    (arg11 : Memref sig .tc .vmem S1x512x1024 .f32) (harg11 : arg11.IsWhole) (arg12 : Memref sig .tc .vmem S4x128x256 .f32)
    (harg12 : arg12.IsWhole) (arg13 : Memref sig .tc .vmem S512x3712 .f32) (harg13 : arg13.IsWhole)
    (arg14 : Memref sig .tc .vmem S512x1024 .f32) (harg14 : arg14.IsWhole) (hc0 : cond0_0 i) (x0 : Vec Ideal S1x512x1024 .f32)
    (x1 : Vec Ideal S1024x3712 .bf16) (x2 : Vec Ideal S128x512 .bf16) (x3 : Vec Ideal S1x512 .f32) (x4 : Vec Ideal S1x256 .f32)
    (x5 : Vec Ideal S1x1x256x1024 .bf16) (x6 : Vec Ideal S1x1536x1024 .bf16) (x7 : Vec Ideal S1x1024 .f32) (x8 : Vec Ideal S1x1024 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = blockOut x0 x1 x2 x3 x4 x5 x6 x7 x8 (k0_pay2 (F := Ideal)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  sl_unfold_words
  simp only [readCov_hx, View.readAt_eq_ld, Memref.IsWhole.read_unread, ld_x0, ld_x1, ld_x2, ld_x3]
  simp only [readCov_oc, canon_out, ld_x4, ld_x6, ld_x7]
  simp only [readCov_st]
  rfl

end Cert.KernelIdeal.Gla
-- ==== Proof.GlaArray.lean ====
module

public import proofs.«01_k».proof.Proof.GlaHost
public import proofs.«01_k».proof.Proof.GlaOpen
public import proofs.«01_k».proof.Proof.Gen.KernelIdeal.Value

/-!
# The mixer kernel's result array, index by index

Grid step `8 a + b` reads block `b` of sequence `a`; the state it finds is the mathematics' state before the block's first
chunk, so its block of the result is the mathematics' eight chunks.
-/

@[expose] public section
set_option maxRecDepth 16384
noncomputable section
open Idealize.ShloMosaic Idealize.ShloMosaic.TcCoe Idealize.ShloMosaic.Tactic
namespace Cert.KernelIdeal.Gla
open Cert.KernelIdeal Cert.KernelIdeal.Gen

variable (m : (ℓ : Loc nD τ sig) → Buf (Elt Ideal) ℓ) (c : Dev nD)

/-- What the mixer reads for sequence `a`, out of the arguments. -/
def data (a : Fin 8) : Mix.Data where
  x t k := m ((c : Thread nD τ).loc main_arg0) (ix3 a t k)
  w k p := m ((c : Thread nD τ).loc main_arg2) (ix2 k p)
  g r p := m ((c : Thread nD τ).loc main_arg3) (ix2 r p)
  bg p := m ((c : Thread nD τ).loc main_arg4) (ix1 p)
  gain e := m ((c : Thread nD τ).loc main_arg5) (ix1 e)
  kv r d := m ((c : Thread nD τ).loc main_arg1) (ix4 0 a r d)
  wo p d := m ((c : Thread nD τ).loc main_arg6) (ix3 0 p d)
  lg d := m ((c : Thread nD τ).loc main_arg7) (ix1 d)
  lb d := m ((c : Thread nD τ).loc main_arg8) (ix1 d)

/-- Which block each moving window reads or writes at a point. -/
theorem index_facts : ∀ t : Fin cfg0.N, (win0_0.index t 0 = t.val / 8 ∧ win0_0.index t 1 = t.val % 8 ∧ win0_0.index t 2 = 0)
    ∧ (win0_5.index t 0 = 0 ∧ win0_5.index t 1 = t.val / 8 ∧ win0_5.index t 2 = 0 ∧ win0_5.index t 3 = 0)
    ∧ (win0_6.index t 0 = 0 ∧ win0_6.index t 1 = 0 ∧ win0_6.index t 2 = 0)
    ∧ (win0_9.index t 0 = t.val / 8 ∧ win0_9.index t 1 = t.val % 8 ∧ win0_9.index t 2 = 0) :=
  (by decide +kernel : ∀ t : Fin grid0.N, (win0_0.index t 0 = t.val / 8 ∧ win0_0.index t 1 = t.val % 8 ∧ win0_0.index t 2 = 0)
    ∧ (win0_5.index t 0 = 0 ∧ win0_5.index t 1 = t.val / 8 ∧ win0_5.index t 2 = 0 ∧ win0_5.index t 3 = 0)
    ∧ (win0_6.index t 0 = 0 ∧ win0_6.index t 1 = 0 ∧ win0_6.index t 2 = 0)
    ∧ (win0_9.index t 0 = t.val / 8 ∧ win0_9.index t 1 = t.val % 8 ∧ win0_9.index t 2 = 0))

/-- The windows that stay where they are. -/
theorem still_facts : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_7.index t 0 = 0 ∧ win0_7.index t 1 = 0) ∧ (win0_8.index t 0 = 0 ∧ win0_8.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_7.index t 0 = 0 ∧ win0_7.index t 1 = 0) ∧ (win0_8.index t 0 = 0 ∧ win0_8.index t 1 = 0))

/-- The number of points. -/
theorem points : cfg0.N = 64 := rfl

/-- Point `t`'s tokens. -/
theorem blk0_apply (t : Fin cfg0.N) (r : Fin 512) (k : Fin 1024) :
    (iblk m c 0 t : Vec Ideal S1x512x1024 .f32) (ix3 0 r k)
      = m ((c : Thread nD τ).loc main_arg0) (ix3 ⟨t.val / 8, by have := t.isLt; have := points; omega⟩ ⟨512 * (t.val % 8) + r.val, by omega⟩ k) := by
  obtain ⟨⟨h0, h1, h2⟩, -⟩ := index_facts t
  rw [← V_main_arg0 m c]
  show V m c main_arg0 _ = V m c main_arg0 _
  refine congrArg (V m c main_arg0) (funext fun a => Fin.ext ?_)
  match a with
  | ⟨0, _⟩ => show win0_0.index t 0 * 1 + 1 * 0 = t.val / 8; omega
  | ⟨1, _⟩ => show win0_0.index t 1 * 512 + 1 * r.val = 512 * (t.val % 8) + r.val; omega
  | ⟨2, _⟩ => show win0_0.index t 2 * 1024 + 1 * k.val = k.val; omega

/-- Every point's projection is the one handed in. -/
theorem blk1_apply (t : Fin cfg0.N) (k : Fin 1024) (p : Fin 3712) :
    (iblk m c 1 t : Vec Ideal S1024x3712 .bf16) (ix2 k p) = (V m c main_v6 : Vec Ideal S1024x3712 .bf16) (ix2 k p) := by
  obtain ⟨⟨h0, h1⟩, -⟩ := still_facts t
  show V m c main_v6 _ = V m c main_v6 _
  refine congrArg (V m c main_v6) (funext fun a => Fin.ext ?_)
  match a with
  | ⟨0, _⟩ => show win0_1.index t 0 * 1024 + 1 * k.val = k.val; omega
  | ⟨1, _⟩ => show win0_1.index t 1 * 3712 + 1 * p.val = p.val; omega

/-- Every point's second projection of the decay gate is the one handed in. -/
theorem blk2_apply (t : Fin cfg0.N) (k : Fin 128) (p : Fin 512) :
    (iblk m c 2 t : Vec Ideal S128x512 .bf16) (ix2 k p) = (V m c main_v8 : Vec Ideal S128x512 .bf16) (ix2 k p) := by
  obtain ⟨-, ⟨h0, h1⟩, -⟩ := still_facts t
  show V m c main_v8 _ = V m c main_v8 _
  refine congrArg (V m c main_v8) (funext fun a => Fin.ext ?_)
  match a with
  | ⟨0, _⟩ => show win0_2.index t 0 * 128 + 1 * k.val = k.val; omega
  | ⟨1, _⟩ => show win0_2.index t 1 * 512 + 1 * p.val = p.val; omega

/-- Every point's offset of the decay gate is the argument. -/
theorem blk3_apply (t : Fin cfg0.N) (k : Fin 512) :
    (iblk m c 3 t : Vec Ideal S1x512 .f32) (ix2 0 k) = m ((c : Thread nD τ).loc main_arg4) (ix1 k) := by
  obtain ⟨-, -, ⟨h0, h1⟩, -⟩ := still_facts t
  rw [← v9_apply m c k]
  show V m c main_v9 _ = V m c main_v9 _
  refine congrArg (V m c main_v9) (funext fun a => Fin.ext ?_)
  match a with
  | ⟨0, _⟩ => show win0_3.index t 0 * 1 + 1 * 0 = 0; omega
  | ⟨1, _⟩ => show win0_3.index t 1 * 512 + 1 * k.val = k.val; omega

/-- Every point's gain of the heads' outputs is the argument. -/
theorem blk4_apply (t : Fin cfg0.N) (k : Fin 256) :
    (iblk m c 4 t : Vec Ideal S1x256 .f32) (ix2 0 k) = m ((c : Thread nD τ).loc main_arg5) (ix1 k) := by
  obtain ⟨-, -, -, ⟨h0, h1⟩, -⟩ := still_facts t
  rw [← v10_apply m c k]
  show V m c main_v10 _ = V m c main_v10 _
  refine congrArg (V m c main_v10) (funext fun a => Fin.ext ?_)
  match a with
  | ⟨0, _⟩ => show win0_4.index t 0 * 1 + 1 * 0 = 0; omega
  | ⟨1, _⟩ => show win0_4.index t 1 * 256 + 1 * k.val = k.val; omega

/-- Point `t`'s memory is its sequence's. -/
theorem blk5_apply (t : Fin cfg0.N) (r : Fin 256) (d : Fin 1024) :
    (iblk m c 5 t : Vec Ideal S1x1x256x1024 .bf16) (ix4 0 0 r d)
      = m ((c : Thread nD τ).loc main_arg1) (ix4 0 ⟨t.val / 8, by have := t.isLt; have := points; omega⟩ r d) := by
  obtain ⟨-, ⟨h0, h1, h2, h3⟩, -⟩ := index_facts t
  rw [← V_main_arg1 m c]
  show V m c main_arg1 _ = V m c main_arg1 _
  refine congrArg (V m c main_arg1) (funext fun a => Fin.ext ?_)
  match a with
  | ⟨0, _⟩ => show win0_5.index t 0 * 1 + 1 * 0 = 0; omega
  | ⟨1, _⟩ => show win0_5.index t 1 * 1 + 1 * 0 = t.val / 8; omega
  | ⟨2, _⟩ => show win0_5.index t 2 * 256 + 1 * r.val = r.val; omega
  | ⟨3, _⟩ => show win0_5.index t 3 * 1024 + 1 * d.val = d.val; omega

/-- Every point's last projection is layer 0 of the argument. -/
theorem blk6_apply (t : Fin cfg0.N) (p : Fin 1536) (d : Fin 1024) :
    (iblk m c 6 t : Vec Ideal S1x1536x1024 .bf16) (ix3 0 p d) = m ((c : Thread nD τ).loc main_arg6) (ix3 0 p d) := by
  obtain ⟨-, -, ⟨h0, h1, h2⟩, -⟩ := index_facts t
  rw [← v0_apply m c p d]
  show V m c main_v0 _ = V m c main_v0 _
  refine congrArg (V m c main_v0) (funext fun a => Fin.ext ?_)
  match a with
  | ⟨0, _⟩ => show win0_6.index t 0 * 1 + 1 * 0 = 0; omega
  | ⟨1, _⟩ => show win0_6.index t 1 * 1536 + 1 * p.val = p.val; omega
  | ⟨2, _⟩ => show win0_6.index t 2 * 1024 + 1 * d.val = d.val; omega

/-- Every point's gain of the layer norm is the argument. -/
theorem blk7_apply (t : Fin cfg0.N) (k : Fin 1024) :
    (iblk m c 7 t : Vec Ideal S1x1024 .f32) (ix2 0 k) = m ((c : Thread nD τ).loc main_arg7) (ix1 k) := by
  obtain ⟨-, -, -, -, ⟨h0, h1⟩, -⟩ := still_facts t
  rw [← v11_apply m c k]
  show V m c main_v11 _ = V m c main_v11 _
  refine congrArg (V m c main_v11) (funext fun a => Fin.ext ?_)
  match a with
  | ⟨0, _⟩ => show win0_7.index t 0 * 1 + 1 * 0 = 0; omega
  | ⟨1, _⟩ => show win0_7.index t 1 * 1024 + 1 * k.val = k.val; omega

/-- Every point's offset of the layer norm is the argument. -/
theorem blk8_apply (t : Fin cfg0.N) (k : Fin 1024) :
    (iblk m c 8 t : Vec Ideal S1x1024 .f32) (ix2 0 k) = m ((c : Thread nD τ).loc main_arg8) (ix1 k) := by
  obtain ⟨-, -, -, -, -, ⟨h0, h1⟩⟩ := still_facts t
  rw [← v12_apply m c k]
  show V m c main_v12 _ = V m c main_v12 _
  refine congrArg (V m c main_v12) (funext fun a => Fin.ext ?_)
  match a with
  | ⟨0, _⟩ => show win0_8.index t 0 * 1 + 1 * 0 = 0; omega
  | ⟨1, _⟩ => show win0_8.index t 1 * 1024 + 1 * k.val = k.val; omega

/-- The sequence of a point. -/
def seq (t : Fin cfg0.N) : Fin 8 := ⟨t.val / 8, by have := t.isLt; have := points; omega⟩

/-- What a point reads is its block of its sequence. -/
theorem inputs (t : Fin cfg0.N) : Inputs (data m c (seq t)) (t.val % 8) (iblk m c 0 t) (iblk m c 1 t) (iblk m c 2 t) (iblk m c 3 t)
    (iblk m c 4 t) (iblk m c 5 t) (iblk m c 6 t) (iblk m c 7 t) (iblk m c 8 t) where
  hb := Nat.mod_lt _ (by decide)
  tokens e i k := (blk0_apply m c t _ k).trans (congrArg (fun q => m ((c : Thread nD τ).loc main_arg0) (ix3 (seq t) q k)) (Fin.ext (by
    show 512 * (t.val % 8) + (64 * e.val + i.val) = (64 * (8 * (t.val % 8) + e.val) + i.val) % 4096
    omega)))
  main k p := (blk1_apply m c t k _).trans (v6_main m c k p)
  asks k p := (blk1_apply m c t k _).trans (v6_asks m c k p)
  gate k p := (blk1_apply m c t k _).trans (v6_gate m c k p)
  second a p := (blk2_apply m c t _ p).trans (v8_second m c a p)
  pad a p := (blk2_apply m c t _ p).trans (v8_pad m c a p)
  offset p := blk3_apply m c t p
  gain e := blk4_apply m c t e
  memory r d := blk5_apply m c t r d
  last p d := blk6_apply m c t p d
  lnGain d := blk7_apply m c t d
  lnOffset d := blk8_apply m c t d

/-- The state the first step of a sequence starts from is zero. -/
theorem zero_apply (h : Fin 4) (d : Fin 128) (e : Fin 256) : (k0_pay2 (F := Ideal)) (ix3 h d e) = (0 : EReal) := by
  unfold k0_pay2
  pointwise

/-- The state point `t` leaves is the state after its block. -/
theorem state_after (n : ℕ) (hn : n < cfg0.N) (h : Fin 4) (d : Fin 128) (e : Fin 256) :
    (outsAt0 m c n hn).2 (ix3 h d e) = Mix.stateAt (data m c (seq ⟨n, hn⟩)) h (8 * (n % 8 + 1)) d e := by
  induction n generalizing h d e with
  | zero =>
    have hA := outsAt0_A m c ⟨0, hn⟩ rfl
    rw [show outsAt0 m c 0 hn = _ from hA]
    dsimp only
    rw [state_A]
    exact (inputs m c ⟨0, hn⟩).blockState_eq _ _ (fun h d e => zero_apply h d e) h d e
  | succ n ih =>
    by_cases h0 : (n + 1) % 8 = 0
    · have hA := outsAt0_A m c ⟨n + 1, hn⟩ h0
      rw [show outsAt0 m c (n + 1) hn = _ from hA]
      dsimp only
      rw [state_A]
      refine (inputs m c ⟨n + 1, hn⟩).blockState_eq _ _ (fun h d e => ?_) h d e
      rw [zero_apply]
      show (0 : EReal) = Mix.stateAt _ h (8 * ((n + 1) % 8)) d e
      rw [h0]
      rfl
    · have hB := outsAt0_B m c ⟨n + 1, hn⟩ h0
      rw [show outsAt0 m c (n + 1) hn = _ from hB]
      dsimp only
      rw [state_B]
      refine (inputs m c ⟨n + 1, hn⟩).blockState_eq _ _ (fun h d e => ?_) h d e
      refine (ih (Nat.lt_of_succ_lt hn) h d e).trans ?_
      have hs : seq ⟨n, Nat.lt_of_succ_lt hn⟩ = seq ⟨n + 1, hn⟩ := Fin.ext (by show n / 8 = (n + 1) / 8; omega)
      have he : n % 8 + 1 = (n + 1) % 8 := by omega
      rw [hs, he]

/-- The block point `t` leaves is its eight chunks of its sequence's result. -/
theorem out_after (hf : ∀ a, Mix.Finite (data m c a)) (t : Fin cfg0.N) (e : Fin 8) (i : Fin 64) (d : Fin 1024) :
    (outsAt0 m c t.val t.isLt).1 (ix3 0 ⟨64 * e.val + i.val, by omega⟩ d)
      = Mix.resultAt (data m c (seq t)) (8 * (t.val % 8) + e.val) i d := by
  by_cases h0 : t.val % 8 = 0
  · rw [outsAt0_A m c t h0]
    dsimp only
    rw [out_A]
    refine (inputs m c t).blockOut_eq (hf _) _ (fun h d e => ?_) e i d
    rw [zero_apply, h0]
    rfl
  · rw [outsAt0_B m c t h0]
    dsimp only
    rw [out_B]
    refine (inputs m c t).blockOut_eq (hf _) _ (fun h d e => ?_) e i d
    refine (state_after m c (t.val - 1) _ h d e).trans ?_
    have hs : seq ⟨t.val - 1, Nat.lt_of_le_of_lt (Nat.sub_le _ _) t.isLt⟩ = seq t := Fin.ext (by show (t.val - 1) / 8 = t.val / 8; omega)
    have he : (t.val - 1) % 8 + 1 = t.val % 8 := by omega
    rw [hs, he]

/-- The result array at row `i` of chunk `n` of sequence `a`. -/
theorem array_apply (hf : ∀ a, Mix.Finite (data m c a)) (a : Fin 8) (r : Fin 4096) (d : Fin 1024) :
    ((dats m 0 c).arrAt 9 cfg0.N : (⟨S8x4096x1024, .f32⟩ : BufTy).Contents (Elt Ideal)) (ix3 a r d)
      = Mix.resultAt (data m c a) (r.val / 64) ⟨r.val % 64, Nat.mod_lt _ (by decide)⟩ d := by
  have ha := a.isLt
  have hr := r.isLt
  let t : Fin cfg0.N := ⟨8 * a.val + r.val / 512, by have := points; omega⟩
  let e : Fin 8 := ⟨r.val % 512 / 64, by omega⟩
  let i : Fin 64 := ⟨r.val % 64, Nat.mod_lt _ (by decide)⟩
  let q : Fin 512 := ⟨64 * e.val + i.val, by omega⟩
  have hq : q.val = r.val % 512 := by show 64 * (r.val % 512 / 64) + r.val % 64 = r.val % 512; omega
  have ht8 : t.val / 8 = a.val := by show (8 * a.val + r.val / 512) / 8 = a.val; omega
  have htm : t.val % 8 = r.val / 512 := by show (8 * a.val + r.val / 512) % 8 = r.val / 512; omega
  obtain ⟨-, -, -, h0, h1, h2⟩ := index_facts t
  have h := congrFun (Value.blocks9 m c t (flush0_9 t)) (ix3 0 q d : S1x512x1024.Idx)
  rw [Value.flushed9] at h
  have hl : (((cfg0.win 9).blk t).view.emb (ix3 0 q d : S1x512x1024.Idx) : S8x4096x1024.Idx) = ix3 a r d := by
    funext b
    refine Fin.ext ?_
    match b with
    | ⟨0, _⟩ => show win0_9.index t 0 * 1 + 1 * 0 = a.val; omega
    | ⟨1, _⟩ => show win0_9.index t 1 * 512 + 1 * q.val = r.val; omega
    | ⟨2, _⟩ => show win0_9.index t 2 * 1024 + 1 * d.val = d.val; omega
  have hL : ((cfg0.win 9).blk t).view.read (Elt Ideal) ((dats m 0 c).arrAt 9 cfg0.N) (ix3 0 q d : S1x512x1024.Idx)
      = ((dats m 0 c).arrAt 9 cfg0.N : (⟨S8x4096x1024, .f32⟩ : BufTy).Contents (Elt Ideal)) (ix3 a r d) := by
    rw [← hl]; rfl
  refine hL.symm.trans (h.trans ?_)
  show (outsAt0 m c t.val t.isLt).1 (ix3 0 q d) = _
  refine (out_after m c hf t e i d).trans ?_
  have hs : seq t = a := Fin.ext ht8
  have hn : 8 * (t.val % 8) + e.val = r.val / 64 := by rw [htm]; show 8 * (r.val / 512) + r.val % 512 / 64 = r.val / 64; omega
  rw [hs, hn]

end Cert.KernelIdeal.Gla
-- ==== Proof.GlaRefRun.lean ====
/-
  The run of the mixer's reference as a sequence of states: the loop's carried buffers before trip `k` hold the `k`-th
  state, and the result is the tail of the program applied to state 64.
-/
module

public import proofs.«01_k».proof.Proof.Gen.ReferenceIdeal.Run
public import proofs.«01_k».proof.Proof.Gen.ReferenceIdeal.Step
public import Idealize.ShloMosaic.PureOps.Ideal

@[expose] public section

set_option maxRecDepth 65536
set_option maxHeartbeats 1000000

noncomputable section

open Idealize.ShloMosaic Idealize.ShloMosaic.TcCoe Idealize.SL.Sem Idealize.ShloMosaic.StableHlo

namespace Cert.ReferenceIdeal.Gla

open Cert.ReferenceIdeal Cert.ReferenceIdeal.Gen Cert.ReferenceIdeal.Value Cert.ReferenceIdeal.Step

/-- The loop's buffers hold the state `s` before trip `j`. -/
structure At (V : Valuation τ sig (Elt Ideal)) (s : State Ideal) (j : ℕ) : Prop where
  state : V (Proc.devRef .tc main_v63_6) = s.main_v63_6
  outs : V (Proc.devRef .tc main_v63_7) = s.main_v63_7
  qe : V (Proc.devRef .tc main_v63_0) = s.main_v63_0
  ke : V (Proc.devRef .tc main_v63_1) = s.main_v63_1
  kd : V (Proc.devRef .tc main_v63_2) = s.main_v63_2
  vals : V (Proc.devRef .tc main_v63_3) = s.main_v63_3
  last : V (Proc.devRef .tc main_v63_4) = s.main_v63_4
  trip : V (Proc.devRef .tc main_v63_5) = constantI S_ 32 (BitVec.ofNat 32 j)

/-- A trip's new carried state. -/
theorem state_step {V : Valuation τ sig (Elt Ideal)} {s : State Ideal} {j : ℕ} (h : At V s j) :
    step_main_v63_6 V = b52 j s := by
  obtain ⟨s6, s7, s0, s1, s2, s3, s4⟩ := s
  obtain ⟨h6, h7, h0, h1, h2, h3, h4, h5⟩ := h
  unfold Value.step_main_v63_6 res_main_while0b_v158
  rw [h6, h2, h3, h4, h5]
  rfl

/-- A trip's new outputs. -/
theorem outs_step {V : Valuation τ sig (Elt Ideal)} {s : State Ideal} {j : ℕ} (h : At V s j) :
    step_main_v63_7 V = b59 j s := by
  obtain ⟨s6, s7, s0, s1, s2, s3, s4⟩ := s
  obtain ⟨h6, h7, h0, h1, h2, h3, h4, h5⟩ := h
  unfold Value.step_main_v63_7 res_main_while0b_v158 res_main_while0b_v155
  rw [h6, h7, h0, h1, h3, h5]
  rfl

/-- A trip's new number. -/
theorem trip_step {V : Valuation τ sig (Elt Ideal)} {s : State Ideal} {j : ℕ} (h : At V s j) :
    step_main_v63_5 V = constantI S_ 32 (BitVec.ofNat 32 (j + 1)) := by
  unfold step_main_v63_5
  rw [h.trip]
  funext i
  exact (BitVec.ofNat_add ..).symm

/-- A trip takes the buffers from one state to the next. -/
theorem At.next {V : Valuation τ sig (Elt Ideal)} {s : State Ideal} {j : ℕ} (h : At V s j) : At (STEP V) (step j s) (j + 1) :=
  ⟨(STEP_main_v63_6 V).trans (state_step h), (STEP_main_v63_7 V).trans (outs_step h), (STEP_main_v63_0 V).trans h.qe,
    (STEP_main_v63_1 V).trans h.ke, (STEP_main_v63_2 V).trans h.kd, (STEP_main_v63_3 V).trans h.vals,
    (STEP_main_v63_4 V).trans h.last, (STEP_main_v63_5 V).trans (trip_step h)⟩

variable (m : (ℓ : Loc nD τ sig) → Buf (Elt Ideal) ℓ) (c : Dev nD)

/-- The `k`-th state. -/
def states : ℕ → State Ideal
  | 0 => init (m ((c.tc : Thread nD τ).loc main_arg0)) (m ((c.tc : Thread nD τ).loc main_arg2)) (m ((c.tc : Thread nD τ).loc main_arg3)) (m ((c.tc : Thread nD τ).loc main_arg4))
  | k + 1 => step k (states k)

/-- The operations before the loop leave the first state. -/
theorem at_entry : At (entryContents preI m c) (states m c 0) 0 := by
  constructor <;> (simp only [entryContents, afterL_cons, afterL_nil]; after_reads_simp) <;> rfl

/-- Before trip `k` the buffers hold the `k`-th state. -/
theorem at_states (k : ℕ) : At (STEP^[k] (entryContents preI m c)) (states m c k) k := by
  induction k with
  | zero => exact at_entry m c
  | succ k ih => rw [Function.iterate_succ_apply']; exact ih.next

/-- The result is the tail of the program over the last state. -/
theorem result_of_states :
    out_main_v154 (STEP^[64] (entryContents preI m c))
      = R_main_v154 (states m c 64) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  have h7 := (at_states m c 64).outs
  have a0 := iter_main_arg0 m c 64
  have a1 := iter_main_arg1 m c 64
  have a2 := iter_main_arg2 m c 64
  have a5 := iter_main_arg5 m c 64
  have a6 := iter_main_arg6 m c 64
  have a7 := iter_main_arg7 m c 64
  have a8 := iter_main_arg8 m c 64
  generalize STEP^[64] (entryContents preI m c) = V at *
  unfold out_main_v154 R_main_v154
  rw [h7, a0, a1, a2, a5, a6, a7, a8]

end Cert.ReferenceIdeal.Gla

end
-- ==== Proof.GlaRef.lean ====
module

public import proofs.«01_k».proof.Proof.GlaRefRun
public import proofs.«01_k».proof.Proof.Mixer
public import Idealize.ShloMosaic.Lib.Pointwise

/-!
# The mixer's reference before its loop and in a trip

The reference's arrays over chunks, sequences, heads and rows are the mathematics' queries, keys, values and decays, and a
trip takes the mathematics' state and gives its outputs.
-/

@[expose] public section
set_option maxRecDepth 16384
noncomputable section
open Idealize.ShloMosaic Idealize.ShloMosaic.TcCoe Idealize.ShloMosaic.Tactic
namespace Cert.ReferenceIdeal.Gla
open Cert.ReferenceIdeal Cert.ReferenceIdeal.Gen Cert.ReferenceIdeal.Step

/-- A left fold of additions is the sum. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The sum over a window of 64 that ends at row `i` is the sum of the rows up to `i`. -/
theorem sum_window (l : Fin 64 → EReal) (i : Fin 64) :
    ∑ w : Fin 64, (if 63 ≤ i.val + w.val then l ⟨i.val + w.val - 63, by omega⟩ else 0) = Mix.cum l i := by
  unfold Mix.cum
  rw [← Finset.sum_filter, ← Finset.sum_filter]
  refine Finset.sum_bij' (fun w _ => (⟨i.val + w.val - 63, by omega⟩ : Fin 64)) (fun j _ => (⟨(63 + j.val - i.val) % 64, Nat.mod_lt _ (by decide)⟩ : Fin 64)) ?_ ?_ ?_ ?_ ?_
  · intro w hw
    simp only [Finset.mem_filter, Finset.mem_univ, true_and, Fin.le_def] at hw ⊢
    have := w.isLt; omega
  · intro j hj
    simp only [Finset.mem_filter, Finset.mem_univ, true_and, Fin.le_def] at hj ⊢
    have := i.isLt; omega
  · intro w hw
    simp only [Finset.mem_filter, Finset.mem_univ, true_and] at hw
    have := i.isLt; have := w.isLt
    exact Fin.ext (by dsimp only; omega)
  · intro j hj
    simp only [Finset.mem_filter, Finset.mem_univ, true_and, Fin.le_def] at hj
    have := i.isLt
    exact Fin.ext (by dsimp only; omega)
  · intro w hw
    rfl

/-- The running sum along the rows of a chunk. -/
theorem running_apply (x : Vec Ideal S64x8x4x64x128 .f32) (z : Vec Ideal S_ .f32) (hz : ∀ j, z j = (0 : EReal)) (n : Fin 64) (a : Fin 8) (h : Fin 4) (i : Fin 64) (d : Fin 128) :
    (Host.reduceWindowAdd (F := Ideal) (φ := .f32) ![1, 1, 1, 64, 1] ![1, 1, 1, 1, 1] ![0, 0, 0, 63, 0] ![0, 0, 0, 0, 0] x z
      reduceWindows_S64x8x4x64x128_S64x8x4x64x128_w1s1p0_0_w1s1p0_0_w1s1p0_0_w64s1p63_0_w1s1p0_0 h_S_) (ix5 n a h i d)
      = Mix.cum (fun j => x (ix5 n a h j d)) i := by
  show List.foldl (fun r k => r + _) (z _) (List.finRange _) = _
  rw [foldl_add, hz, zero_add, ← Fin.sum_univ_def]
  let G : (⟨5, ![1, 1, 1, 64, 1]⟩ : Shape).Idx → EReal := fun W =>
    if 63 ≤ i.val + (W 3).val then x (ix5 n a h ⟨i.val + (W 3).val - 63, by have : (W 3).val < 64 := (W 3).isLt; omega⟩ d) else 0
  refine (Fintype.sum_equiv (Shape.rowMajor (⟨5, ![1, 1, 1, 64, 1]⟩ : Shape)).symm _ G fun k => ?_).trans ?_
  · have hk : ∀ W : (⟨5, ![1, 1, 1, 64, 1]⟩ : Shape).Idx, (W 0).val = 0 ∧ (W 1).val = 0 ∧ (W 2).val = 0 ∧ (W 3).val < 64 ∧ (W 4).val = 0 :=
      fun W => ⟨Nat.lt_one_iff.1 (W 0).isLt, Nat.lt_one_iff.1 (W 1).isLt, Nat.lt_one_iff.1 (W 2).isLt, (W 3).isLt, Nat.lt_one_iff.1 (W 4).isLt⟩
    obtain ⟨h0, h1, h2, h3, h4⟩ := hk ((Shape.rowMajor (⟨5, ![1, 1, 1, 64, 1]⟩ : Shape)).symm k)
    have hi := i.isLt
    have hn := n.isLt
    have ha := a.isLt
    have hh := h.isLt
    have hd := d.isLt
    dsimp only
    split
    next hin =>
      have hc : 63 ≤ i.val * 1 + ((Shape.rowMajor (⟨5, ![1, 1, 1, 64, 1]⟩ : Shape)).symm k 3).val := (hin 3).1
      rw [Nat.mul_one] at hc
      show _ = (if _ then _ else _)
      rw [if_pos hc]
      refine congrArg x (funext fun q => Fin.ext ?_)
      match q with
      | ⟨0, _⟩ => exact (congrArg (fun y => n.val * 1 + y - 0) h0).trans (by omega : n.val * 1 + 0 - 0 = n.val)
      | ⟨1, _⟩ => exact (congrArg (fun y => a.val * 1 + y - 0) h1).trans (by omega : a.val * 1 + 0 - 0 = a.val)
      | ⟨2, _⟩ => exact (congrArg (fun y => h.val * 1 + y - 0) h2).trans (by omega : h.val * 1 + 0 - 0 = h.val)
      | ⟨3, _⟩ => exact congrArg (fun y => y + ((Shape.rowMajor (⟨5, ![1, 1, 1, 64, 1]⟩ : Shape)).symm k 3).val - 63) (Nat.mul_one i.val)
      | ⟨4, _⟩ => exact (congrArg (fun y => d.val * 1 + y - 0) h4).trans (by omega : d.val * 1 + 0 - 0 = d.val)
    next hin =>
      show _ = (if _ then _ else _)
      rw [if_neg fun hc => hin fun q => ?_]
      match q with
      | ⟨0, _⟩ => exact ⟨Nat.zero_le _, lt_of_eq_of_lt ((congrArg (fun y => n.val * 1 + y - 0) h0).trans (by omega : n.val * 1 + 0 - 0 = n.val)) hn⟩
      | ⟨1, _⟩ => exact ⟨Nat.zero_le _, lt_of_eq_of_lt ((congrArg (fun y => a.val * 1 + y - 0) h1).trans (by omega : a.val * 1 + 0 - 0 = a.val)) ha⟩
      | ⟨2, _⟩ => exact ⟨Nat.zero_le _, lt_of_eq_of_lt ((congrArg (fun y => h.val * 1 + y - 0) h2).trans (by omega : h.val * 1 + 0 - 0 = h.val)) hh⟩
      | ⟨3, _⟩ =>
        have hc' : 63 ≤ i.val * 1 + ((Shape.rowMajor (⟨5, ![1, 1, 1, 64, 1]⟩ : Shape)).symm k 3).val := by rw [Nat.mul_one]; exact hc
        exact ⟨hc', (by omega : i.val * 1 + ((Shape.rowMajor (⟨5, ![1, 1, 1, 64, 1]⟩ : Shape)).symm k 3).val - 63 < 64)⟩
      | ⟨4, _⟩ => exact ⟨Nat.zero_le _, lt_of_eq_of_lt ((congrArg (fun y => d.val * 1 + y - 0) h4).trans (by omega : d.val * 1 + 0 - 0 = d.val)) hd⟩
  rw [sum_idx5]
  simp only [Fin.sum_univ_one]
  exact sum_window (fun j => x (ix5 n a h j d)) i

/-! ### The arrays before the loop -/

variable (x : (⟨S8x4096x1024, .f32⟩ : BufTy).Contents (Elt Ideal)) (kv : (⟨S4x8x256x1024, .bf16⟩ : BufTy).Contents (Elt Ideal))
  (w : (⟨S1024x3600, .f32⟩ : BufTy).Contents (Elt Ideal)) (g : (⟨S16x512, .f32⟩ : BufTy).Contents (Elt Ideal))
  (bg : (⟨S512, .f32⟩ : BufTy).Contents (Elt Ideal)) (gain : (⟨S256, .f32⟩ : BufTy).Contents (Elt Ideal))
  (wo : (⟨S2x1536x1024, .f32⟩ : BufTy).Contents (Elt Ideal)) (lg lb : (⟨S1024, .f32⟩ : BufTy).Contents (Elt Ideal))

/-- What the mixer reads for sequence `a`, out of the arguments. -/
def data (a : Fin 8) : Mix.Data where
  x t k := x (ix3 a t k)
  w k p := w (ix2 k p)
  g r p := g (ix2 r p)
  bg p := bg (ix1 p)
  gain e := gain (ix1 e)
  kv r d := kv (ix4 0 a r d)
  wo p d := wo (ix3 0 p d)
  lg d := lg (ix1 d)
  lb d := lb (ix1 d)

/-- A token's projection, out of the arguments. -/
theorem proj_eq (a : Fin 8) (q : Fin 4096) (p : Fin 3600) (n : ℕ) (i : Fin 64) (p' : Fin 3600) (hn : n < 64) (hq : q.val = n * 64 + i.val) (hp : p.val = p'.val) :
    ∑ k, x (ix3 a q k) * w (ix2 k p) = Mix.proj (data x kv w g bg gain wo lg lb a) (Mix.tok n i) p' := by
  have e : q = Mix.tok n i := Fin.ext (by show q.val = (64 * n + i.val) % 4096; omega)
  rw [e, Fin.ext hp]
  rfl

/-- The queries before scale and decay. -/
theorem q_apply (n : Fin 64) (a : Fin 8) (h : Fin 4) (i : Fin 64) (d : Fin 128) :
    A_main_v39 (F := Ideal) x w g bg (ix5 n a h i d)
      = Mix.proj (data x kv w g bg gain wo lg lb a) (Mix.tok n i) ⟨128 * h.val + d.val, by omega⟩ := by
  pointwise [A_main_v39, A_main_v38, A_main_v6, A_main_v0, Mix.proj]
  exact proj_eq x kv w g bg gain wo lg lb a _ _ n i _ n.isLt rfl (by dsimp only; omega)

/-- The keys before decay. -/
theorem k_apply (n : Fin 64) (a : Fin 8) (h : Fin 4) (i : Fin 64) (d : Fin 128) :
    A_main_v43 (F := Ideal) x w g bg (ix5 n a h i d)
      = Mix.proj (data x kv w g bg gain wo lg lb a) (Mix.tok n i) ⟨512 + (128 * h.val + d.val), by omega⟩ := by
  pointwise [A_main_v43, A_main_v42, A_main_v13, A_main_v8, Mix.proj]
  exact proj_eq x kv w g bg gain wo lg lb a _ _ n i _ n.isLt rfl (by dsimp only; omega)

/-- The values. -/
theorem v_apply (n : Fin 64) (a : Fin 8) (h : Fin 4) (i : Fin 64) (d : Fin 256) :
    A_main_v45 (F := Ideal) x w g bg (ix5 n a h i d) = Mix.vals (data x kv w g bg gain wo lg lb a) h n i d := by
  pointwise [A_main_v45, A_main_v44, A_main_v20, A_main_v16, Mix.vals, Mix.proj]
  exact proj_eq x kv w g bg gain wo lg lb a _ _ n i _ n.isLt rfl (by dsimp only; omega)

/-- The log decay. -/
theorem decay_apply (n : Fin 64) (a : Fin 8) (h : Fin 4) (i : Fin 64) (d : Fin 128) :
    A_main_v47 (F := Ideal) x w g bg (ix5 n a h i d)
      = Mix.decay (data x kv w g bg gain wo lg lb a) (Mix.tok n i) (Mix.keyCol h d) := by
  pointwise [A_main_v47, A_main_v46, A_main_v37, K_main_v36, K_main_cst, A_main_v35, A_main_v34, A_main_v33, A_main_v32, A_main_v31, A_main_v30, A_main_v29, A_main_v28, A_main_v27, A_main_v25, Mix.decay, Mix.logSig, Mix.proj]
  have hk : (⟨h.val * 128 + d.val, by omega⟩ : Fin 512) = Mix.keyCol h d := Fin.ext (by show h.val * 128 + d.val = 128 * h.val + d.val; omega)
  have hx : ∀ r : Fin 16, ∑ k, x (ix3 a ⟨n.val * 64 + i.val, by omega⟩ k) * w (ix2 k ⟨3072 + r.val, by omega⟩)
      = Mix.proj (data x kv w g bg gain wo lg lb a) (Mix.tok n i) ⟨3072 + r.val, by omega⟩ :=
    fun r => proj_eq x kv w g bg gain wo lg lb a _ _ n i _ n.isLt rfl rfl
  simp only [hx, hk]
  rfl

/-- The log decay summed along its chunk. -/
theorem bcum_apply (n : Fin 64) (a : Fin 8) (h : Fin 4) (i : Fin 64) (d : Fin 128) :
    A_main_v48 (F := Ideal) x w g bg (ix5 n a h i d) = Mix.bcum (data x kv w g bg gain wo lg lb a) n i (Mix.keyCol h d) := by
  unfold A_main_v48
  rw [running_apply]
  · exact congrArg (fun l => Mix.cum l i) (funext fun j => decay_apply x kv w g bg gain wo lg lb n a h j d)
  · intro j
    pointwise [K_main_call0_call0_v0, K_main_call0_call0_cst]

/-- The decayed queries. -/
theorem qe_apply (n : Fin 64) (a : Fin 8) (h : Fin 4) (i : Fin 64) (d : Fin 128) :
    A_main_v52 (F := Ideal) x w g bg (ix5 n a h i d) = Mix.qe (data x kv w g bg gain wo lg lb a) h n i d := by
  have hq := q_apply x kv w g bg gain wo lg lb n a h i d
  have hb := bcum_apply x kv w g bg gain wo lg lb n a h i d
  unfold A_main_v52 A_main_v51 A_main_v41
  generalize A_main_v39 (F := Ideal) x w g bg = Q at hq ⊢
  generalize A_main_v48 (F := Ideal) x w g bg = B at hb ⊢
  pointwise [K_main_v40, K_main_cst_0, hq, hb, Mix.qe, Mix.scale]

/-- The keys with the decay taken out. -/
theorem ke_apply (n : Fin 64) (a : Fin 8) (h : Fin 4) (i : Fin 64) (d : Fin 128) :
    A_main_v55 (F := Ideal) x w g bg (ix5 n a h i d) = Mix.ke (data x kv w g bg gain wo lg lb a) h n i d := by
  have hk := k_apply x kv w g bg gain wo lg lb n a h i d
  have hb := bcum_apply x kv w g bg gain wo lg lb n a h i d
  unfold A_main_v55 A_main_v54 A_main_v53
  generalize A_main_v43 (F := Ideal) x w g bg = K at hk ⊢
  generalize A_main_v48 (F := Ideal) x w g bg = B at hb ⊢
  pointwise [hk, hb, Mix.ke]

/-- The log decay of a whole chunk. -/
theorem last_apply (n : Fin 64) (a : Fin 8) (h : Fin 4) (d : Fin 128) :
    A_main_v50 (F := Ideal) x w g bg (ix4 n a h d) = Mix.bcum (data x kv w g bg gain wo lg lb a) n 63 (Mix.keyCol h d) := by
  have hb := bcum_apply x kv w g bg gain wo lg lb n a h 63 d
  unfold A_main_v50 A_main_v49
  generalize A_main_v48 (F := Ideal) x w g bg = B at hb ⊢
  rw [← hb]
  pointwise

/-- The keys decayed to the end of the chunk. -/
theorem kd_apply (n : Fin 64) (a : Fin 8) (h : Fin 4) (i : Fin 64) (d : Fin 128) :
    A_main_v60 (F := Ideal) x w g bg (ix5 n a h i d) = Mix.kd (data x kv w g bg gain wo lg lb a) h n i d := by
  have hk := k_apply x kv w g bg gain wo lg lb n a h i d
  have hb := bcum_apply x kv w g bg gain wo lg lb n a h i d
  have hl := last_apply x kv w g bg gain wo lg lb n a h d
  unfold A_main_v60 A_main_v59 A_main_v58 A_main_v57 A_main_v56
  generalize A_main_v43 (F := Ideal) x w g bg = K at hk ⊢
  generalize A_main_v48 (F := Ideal) x w g bg = B at hb ⊢
  generalize A_main_v50 (F := Ideal) x w g bg = L at hl ⊢
  pointwise [hk, hb, hl, Mix.kd]

/-! ### A trip -/

/-- The trip's number read back as an integer. -/
theorem trip_toInt : ∀ j : Fin 64, (BitVec.ofNat 32 j.val).toInt = (j.val : ℤ) := by decide +kernel

/-- The chunks' shape, its last axis of any length. -/
abbrev Full (C : ℕ) : Shape := ⟨5, ![64, 8, 4, 64, C]⟩

/-- One chunk's shape, its last axis of any length. -/
abbrev One (C : ℕ) : Shape := ⟨5, ![1, 8, 4, 64, C]⟩

/-- A block of one chunk sliced out of the chunks, at rank five. -/
theorem slice_five {C : ℕ} (X : (Full C).Idx → EReal) (st : Fin 5 → ℤ) (hs : (Full C).Slices (fun _ => 0) (One C)) (j : Fin 64)
    (h0 : st 0 = (j.val : ℤ)) (h1 : st 1 = 0) (h2 : st 2 = 0) (h3 : st 3 = 0) (h4 : st 4 = 0)
    (a : Fin 8) (h : Fin 4) (i : Fin 64) (d : Fin C) :
    Host.dynamicSlice (One C) X st hs (ix5 0 a h i d) = X (ix5 j a h i d) := by
  have hj := j.isLt
  have e0 : Host.clampedStart (Full C) (One C) hs.1 st 0 = j.val := Host.clampedStart_of_le _ _ _ j.val h0 (by show j.val + 1 ≤ 64; omega)
  have e1 : Host.clampedStart (Full C) (One C) hs.1 st 1 = 0 := Host.clampedStart_of_le _ _ _ 0 h1 (Nat.le_of_eq (Nat.zero_add 8))
  have e2 : Host.clampedStart (Full C) (One C) hs.1 st 2 = 0 := Host.clampedStart_of_le _ _ _ 0 h2 (Nat.le_of_eq (Nat.zero_add 4))
  have e3 : Host.clampedStart (Full C) (One C) hs.1 st 3 = 0 := Host.clampedStart_of_le _ _ _ 0 h3 (Nat.le_of_eq (Nat.zero_add 64))
  have e4 : Host.clampedStart (Full C) (One C) hs.1 st 4 = 0 := Host.clampedStart_of_le _ _ _ 0 h4 (Nat.le_of_eq (Nat.zero_add C))
  rw [Host.dynamicSlice_apply]
  refine congrArg X (funext fun q => Fin.ext ?_)
  match q with
  | ⟨0, _⟩ => show Host.clampedStart (Full C) (One C) hs.1 st 0 + 0 = j.val; rw [e0, Nat.add_zero]
  | ⟨1, _⟩ => show Host.clampedStart (Full C) (One C) hs.1 st 1 + a.val = a.val; rw [e1, Nat.zero_add]
  | ⟨2, _⟩ => show Host.clampedStart (Full C) (One C) hs.1 st 2 + h.val = h.val; rw [e2, Nat.zero_add]
  | ⟨3, _⟩ => show Host.clampedStart (Full C) (One C) hs.1 st 3 + i.val = i.val; rw [e3, Nat.zero_add]
  | ⟨4, _⟩ => show Host.clampedStart (Full C) (One C) hs.1 st 4 + d.val = d.val; rw [e4, Nat.zero_add]

/-- The same at rank four. -/
theorem slice_four (X : S64x8x4x128.Idx → EReal) (st : Fin 4 → ℤ) (hs : S64x8x4x128.Slices (fun _ => 0) S1x8x4x128) (j : Fin 64)
    (h0 : st 0 = (j.val : ℤ)) (h1 : st 1 = 0) (h2 : st 2 = 0) (h3 : st 3 = 0) (a : Fin 8) (h : Fin 4) (d : Fin 128) :
    Host.dynamicSlice S1x8x4x128 X st hs (ix4 0 a h d) = X (ix4 j a h d) := by
  have hj := j.isLt
  have e0 : Host.clampedStart S64x8x4x128 S1x8x4x128 hs.1 st 0 = j.val := Host.clampedStart_of_le _ _ _ j.val h0 (by show j.val + 1 ≤ 64; omega)
  have e1 : Host.clampedStart S64x8x4x128 S1x8x4x128 hs.1 st 1 = 0 := Host.clampedStart_of_le _ _ _ 0 h1 (Nat.le_of_eq (Nat.zero_add 8))
  have e2 : Host.clampedStart S64x8x4x128 S1x8x4x128 hs.1 st 2 = 0 := Host.clampedStart_of_le _ _ _ 0 h2 (Nat.le_of_eq (Nat.zero_add 4))
  have e3 : Host.clampedStart S64x8x4x128 S1x8x4x128 hs.1 st 3 = 0 := Host.clampedStart_of_le _ _ _ 0 h3 (Nat.le_of_eq (Nat.zero_add 128))
  rw [Host.dynamicSlice_apply]
  refine congrArg X (funext fun q => Fin.ext ?_)
  match q with
  | ⟨0, _⟩ => show Host.clampedStart S64x8x4x128 S1x8x4x128 hs.1 st 0 + 0 = j.val; rw [e0, Nat.add_zero]
  | ⟨1, _⟩ => show Host.clampedStart S64x8x4x128 S1x8x4x128 hs.1 st 1 + a.val = a.val; rw [e1, Nat.zero_add]
  | ⟨2, _⟩ => show Host.clampedStart S64x8x4x128 S1x8x4x128 hs.1 st 2 + h.val = h.val; rw [e2, Nat.zero_add]
  | ⟨3, _⟩ => show Host.clampedStart S64x8x4x128 S1x8x4x128 hs.1 st 3 + d.val = d.val; rw [e3, Nat.zero_add]

/-- One chunk written into the chunks. -/
theorem update_five (X : S64x8x4x64x256.Idx → EReal) (U : S1x8x4x64x256.Idx → EReal) (st : Fin 5 → ℤ)
    (hs : S64x8x4x64x256.Slices (fun _ => 0) S1x8x4x64x256) (j : Fin 64)
    (h0 : st 0 = (j.val : ℤ)) (h1 : st 1 = 0) (h2 : st 2 = 0) (h3 : st 3 = 0) (h4 : st 4 = 0)
    (n : Fin 64) (a : Fin 8) (h : Fin 4) (i : Fin 64) (d : Fin 256) :
    Host.dynamicUpdateSlice X U st hs (ix5 n a h i d) = if n = j then U (ix5 0 a h i d) else X (ix5 n a h i d) := by
  have hj := j.isLt
  have e0 : Host.clampedStart S64x8x4x64x256 S1x8x4x64x256 hs.1 st 0 = j.val := Host.clampedStart_of_le _ _ _ j.val h0 (by show j.val + 1 ≤ 64; omega)
  have e1 : Host.clampedStart S64x8x4x64x256 S1x8x4x64x256 hs.1 st 1 = 0 := Host.clampedStart_of_le _ _ _ 0 h1 (Nat.le_of_eq (Nat.zero_add 8))
  have e2 : Host.clampedStart S64x8x4x64x256 S1x8x4x64x256 hs.1 st 2 = 0 := Host.clampedStart_of_le _ _ _ 0 h2 (Nat.le_of_eq (Nat.zero_add 4))
  have e3 : Host.clampedStart S64x8x4x64x256 S1x8x4x64x256 hs.1 st 3 = 0 := Host.clampedStart_of_le _ _ _ 0 h3 (Nat.le_of_eq (Nat.zero_add 64))
  have e4 : Host.clampedStart S64x8x4x64x256 S1x8x4x64x256 hs.1 st 4 = 0 := Host.clampedStart_of_le _ _ _ 0 h4 (Nat.le_of_eq (Nat.zero_add 256))
  rw [Host.dynamicUpdateSlice_apply]
  split
  next hin =>
    have hn : Host.clampedStart S64x8x4x64x256 S1x8x4x64x256 hs.1 st 0 ≤ n.val ∧ n.val < Host.clampedStart S64x8x4x64x256 S1x8x4x64x256 hs.1 st 0 + 1 := hin 0
    rw [e0] at hn
    rw [if_pos (Fin.ext (by omega))]
    refine congrArg U (funext fun q => Fin.ext ?_)
    match q with
    | ⟨0, _⟩ => show n.val - Host.clampedStart S64x8x4x64x256 S1x8x4x64x256 hs.1 st 0 = 0; rw [e0]; omega
    | ⟨1, _⟩ => show a.val - Host.clampedStart S64x8x4x64x256 S1x8x4x64x256 hs.1 st 1 = a.val; rw [e1]; omega
    | ⟨2, _⟩ => show h.val - Host.clampedStart S64x8x4x64x256 S1x8x4x64x256 hs.1 st 2 = h.val; rw [e2]; omega
    | ⟨3, _⟩ => show i.val - Host.clampedStart S64x8x4x64x256 S1x8x4x64x256 hs.1 st 3 = i.val; rw [e3]; omega
    | ⟨4, _⟩ => show d.val - Host.clampedStart S64x8x4x64x256 S1x8x4x64x256 hs.1 st 4 = d.val; rw [e4]; omega
  next hin =>
    rw [if_neg fun hn => hin fun q => ?_]
    match q with
    | ⟨0, _⟩ =>
      show Host.clampedStart S64x8x4x64x256 S1x8x4x64x256 hs.1 st 0 ≤ n.val ∧ n.val < Host.clampedStart S64x8x4x64x256 S1x8x4x64x256 hs.1 st 0 + 1
      rw [e0, hn]; omega
    | ⟨1, _⟩ =>
      show Host.clampedStart S64x8x4x64x256 S1x8x4x64x256 hs.1 st 1 ≤ a.val ∧ a.val < Host.clampedStart S64x8x4x64x256 S1x8x4x64x256 hs.1 st 1 + 8
      rw [e1]; omega
    | ⟨2, _⟩ =>
      show Host.clampedStart S64x8x4x64x256 S1x8x4x64x256 hs.1 st 2 ≤ h.val ∧ h.val < Host.clampedStart S64x8x4x64x256 S1x8x4x64x256 hs.1 st 2 + 4
      rw [e2]; omega
    | ⟨3, _⟩ =>
      show Host.clampedStart S64x8x4x64x256 S1x8x4x64x256 hs.1 st 3 ≤ i.val ∧ i.val < Host.clampedStart S64x8x4x64x256 S1x8x4x64x256 hs.1 st 3 + 64
      rw [e3]; omega
    | ⟨4, _⟩ =>
      show Host.clampedStart S64x8x4x64x256 S1x8x4x64x256 hs.1 st 4 ≤ d.val ∧ d.val < Host.clampedStart S64x8x4x64x256 S1x8x4x64x256 hs.1 st 4 + 256
      rw [e4]; omega

variable (j : Fin 64) (s : State Ideal)

/-- The queries of a trip are its chunk's. -/
theorem b5_apply (a : Fin 8) (h : Fin 4) (i : Fin 64) (d : Fin 128) : b5 j s (ix4 a h i d) = s.main_v63_0 (ix5 j a h i d) := by
  have hs : b4 j s (ix5 0 a h i d) = s.main_v63_0 (ix5 j a h i d) := slice_five _ _ _ j (trip_toInt j) rfl rfl rfl rfl a h i d
  unfold b5
  generalize b4 (↑j) s = Y at hs ⊢
  rw [← hs]
  pointwise

/-- The keys of a trip are its chunk's. -/
theorem b11_apply (a : Fin 8) (h : Fin 4) (i : Fin 64) (d : Fin 128) : b11 j s (ix4 a h i d) = s.main_v63_1 (ix5 j a h i d) := by
  have hs : b10 j s (ix5 0 a h i d) = s.main_v63_1 (ix5 j a h i d) := slice_five _ _ _ j (trip_toInt j) rfl rfl rfl rfl a h i d
  unfold b11
  generalize b10 (↑j) s = Y at hs ⊢
  rw [← hs]
  pointwise

/-- The decayed keys of a trip are its chunk's. -/
theorem b17_apply (a : Fin 8) (h : Fin 4) (i : Fin 64) (d : Fin 128) : b17 j s (ix4 a h i d) = s.main_v63_2 (ix5 j a h i d) := by
  have hs : b16 j s (ix5 0 a h i d) = s.main_v63_2 (ix5 j a h i d) := slice_five _ _ _ j (trip_toInt j) rfl rfl rfl rfl a h i d
  unfold b17
  generalize b16 (↑j) s = Y at hs ⊢
  rw [← hs]
  pointwise

/-- The values of a trip are its chunk's. -/
theorem b23_apply (a : Fin 8) (h : Fin 4) (i : Fin 64) (d : Fin 256) : b23 j s (ix4 a h i d) = s.main_v63_3 (ix5 j a h i d) := by
  have hs : b22 j s (ix5 0 a h i d) = s.main_v63_3 (ix5 j a h i d) := slice_five _ _ _ j (trip_toInt j) rfl rfl rfl rfl a h i d
  unfold b23
  generalize b22 (↑j) s = Y at hs ⊢
  rw [← hs]
  pointwise

/-- The whole decay of a trip is its chunk's. -/
theorem b28_apply (a : Fin 8) (h : Fin 4) (d : Fin 128) : b28 j s (ix3 a h d) = s.main_v63_4 (ix4 j a h d) := by
  have hs : b27 j s (ix4 0 a h d) = s.main_v63_4 (ix4 j a h d) := slice_four _ _ _ j (trip_toInt j) rfl rfl rfl a h d
  unfold b28
  generalize b27 (↑j) s = Y at hs ⊢
  rw [← hs]
  pointwise

/-- The mask of a chunk: row `k` is seen from row `i` when it is not after it. -/
theorem mask_apply (i k : Fin 64) : b39 (F := Ideal) j s (ix2 i k) = if k ≤ i then 1#1 else 0#1 := by
  have hm : ∀ i k : Fin 64, Scalar.select (IntOp.cmpi CmpIPredicate.sge (IntOp.addi (BitVec.ofNat 32 i.val) 0#32) (BitVec.ofNat 32 k.val)) 1#1 0#1 = if k ≤ i then 1#1 else 0#1 := by
    decide +kernel
  refine Eq.trans ?_ (hm i k)
  pointwise [b39, b38, b37, b36, b35, b34, b33, b32, b31, b30, b29]

/-- A trip's new state. -/
theorem b52_apply (a : Fin 8) (h : Fin 4) (d : Fin 128) (e : Fin 256) :
    b52 j s (ix4 a h d e) = Mix.next (fun i d => s.main_v63_2 (ix5 j a h i d)) (fun d => Ideal.exp (s.main_v63_4 (ix4 j a h d)))
      (fun i e => s.main_v63_3 (ix5 j a h i e)) (fun d e => s.main_v63_6 (ix4 a h d e)) d e := by
  have hk := b17_apply j s a h
  have hv := b23_apply j s a h
  have hl := b28_apply j s a h
  unfold b52 b51 b50 b49 b48 b47
  generalize b17 (↑j) s = K at hk ⊢
  generalize b23 (↑j) s = V at hv ⊢
  generalize b28 (↑j) s = L at hl ⊢
  pointwise [Mix.next, hk, hv, hl]

/-- A trip's outputs. -/
theorem b53_apply (a : Fin 8) (h : Fin 4) (i : Fin 64) (e : Fin 256) :
    b53 j s (ix4 a h i e) = Mix.out (fun i d => s.main_v63_0 (ix5 j a h i d)) (fun i d => s.main_v63_1 (ix5 j a h i d))
      (fun i e => s.main_v63_3 (ix5 j a h i e)) (fun d e => s.main_v63_6 (ix4 a h d e)) i e := by
  have hq := b5_apply j s a h
  have hk := b11_apply j s a h
  have hv := b23_apply j s a h
  have hm := mask_apply j s
  unfold b53 b46 b45 b44 b43 b42 b41 b40
  generalize b5 (↑j) s = Q at hq ⊢
  generalize b11 (↑j) s = K at hk ⊢
  generalize b23 (↑j) s = V at hv ⊢
  generalize b39 (↑j) s = M at hm ⊢
  pointwise [Mix.out, hq, hk, hv, hm]
  refine congrArg (· + _) (Finset.sum_congr rfl fun x _ => ?_)
  by_cases hx : x ≤ i
  · rw [if_pos hx, if_pos hx]; rfl
  · rw [if_neg hx, if_neg hx, zero_mul]; rfl

/-- The outputs after a trip: its chunk's are new. -/
theorem b59_apply (n : Fin 64) (a : Fin 8) (h : Fin 4) (i : Fin 64) (e : Fin 256) :
    b59 j s (ix5 n a h i e) = if n = j then b53 j s (ix4 a h i e) else s.main_v63_7 (ix5 n a h i e) := by
  have hu : b54 j s (ix5 0 a h i e) = b53 j s (ix4 a h i e) := by
    unfold b54
    generalize b53 (↑j) s = Y
    pointwise
  rw [← hu]
  exact update_five _ _ _ _ j (trip_toInt j) rfl rfl rfl rfl n a h i e

end Cert.ReferenceIdeal.Gla
-- ==== Proof.GlaLoop.lean ====
module

public import proofs.«01_k».proof.Proof.GlaRef

/-!
# The mixer's reference after its loop

After `n` trips the carried state is the mathematics' state before chunk `n`, and the outputs of the chunks before are the
mathematics' outputs.
-/

@[expose] public section
set_option maxRecDepth 16384
noncomputable section
open Idealize.ShloMosaic Idealize.ShloMosaic.TcCoe Idealize.ShloMosaic.Tactic
namespace Cert.ReferenceIdeal.Gla
open Cert.ReferenceIdeal Cert.ReferenceIdeal.Gen Cert.ReferenceIdeal.Step

variable (m : (ℓ : Loc nD τ sig) → Buf (Elt Ideal) ℓ) (c : Dev nD)

/-- What the mixer reads for sequence `a`, out of the reference's arguments. -/
abbrev inputs (a : Fin 8) : Mix.Data :=
  data (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) a

/-- A state holds the mathematics after `n` chunks. -/
structure Holds (s : State Ideal) (n : ℕ) : Prop where
  qe : ∀ (k : Fin 64) a h i d, s.main_v63_0 (ix5 k a h i d) = Mix.qe (inputs m c a) h k i d
  ke : ∀ (k : Fin 64) a h i d, s.main_v63_1 (ix5 k a h i d) = Mix.ke (inputs m c a) h k i d
  kd : ∀ (k : Fin 64) a h i d, s.main_v63_2 (ix5 k a h i d) = Mix.kd (inputs m c a) h k i d
  vals : ∀ (k : Fin 64) a h i e, s.main_v63_3 (ix5 k a h i e) = Mix.vals (inputs m c a) h k i e
  last : ∀ (k : Fin 64) a h d, s.main_v63_4 (ix4 k a h d) = Mix.bcum (inputs m c a) k 63 (Mix.keyCol h d)
  state : ∀ a h d e, s.main_v63_6 (ix4 a h d e) = Mix.stateAt (inputs m c a) h n d e
  outs : ∀ (k : Fin 64) a h i e, k.val < n → s.main_v63_7 (ix5 k a h i e) = Mix.outAt (inputs m c a) h k i e

/-- The first state holds the mathematics before any chunk. -/
theorem holds_zero : Holds m c (states m c 0) 0 where
  qe k a h i d := qe_apply _ _ _ _ _ _ _ _ _ k a h i d
  ke k a h i d := ke_apply _ _ _ _ _ _ _ _ _ k a h i d
  kd k a h i d := kd_apply _ _ _ _ _ _ _ _ _ k a h i d
  vals k a h i e := v_apply _ _ _ _ _ _ _ _ _ k a h i e
  last k a h d := last_apply _ _ _ _ _ _ _ _ _ k a h d
  state a h d e := by
    show K_main_v61 (F := Ideal) (ix4 a h d e) = (0 : EReal)
    pointwise [K_main_v61, K_main_cst_1]
  outs k a h i e hk := absurd hk (Nat.not_lt_zero _)

/-- A trip takes the mathematics after `j` chunks to the mathematics after `j + 1`. -/
theorem Holds.next {s : State Ideal} {j : Fin 64} (H : Holds m c s j.val) : Holds m c (step j s) (j.val + 1) where
  qe := H.qe
  ke := H.ke
  kd := H.kd
  vals := H.vals
  last := H.last
  state a h d e := by
    show b52 j s (ix4 a h d e) = _
    rw [b52_apply]
    simp only [H.kd, H.last, H.vals, H.state]
    rfl
  outs k a h i e hk := by
    show b59 j s (ix5 k a h i e) = _
    rw [b59_apply]
    by_cases hj : k = j
    · rw [if_pos hj, b53_apply, hj]
      simp only [H.qe, H.ke, H.vals, H.state]
      rfl
    · rw [if_neg hj]
      refine H.outs k a h i e ?_
      have : k.val ≠ j.val := fun e => hj (Fin.ext e)
      omega

/-- The states hold the mathematics. -/
theorem holds (n : ℕ) (hn : n ≤ 64) : Holds m c (states m c n) n := by
  induction n with
  | zero => exact holds_zero m c
  | succ n ih => exact Holds.next m c (j := ⟨n, hn⟩) (ih (by omega))

/-- The outputs after the loop. -/
theorem outs_apply (n : Fin 64) (a : Fin 8) (h : Fin 4) (i : Fin 64) (e : Fin 256) :
    (states m c 64).main_v63_7 (ix5 n a h i e) = Mix.outAt (inputs m c a) h n i e :=
  (holds m c 64 le_rfl).outs n a h i e n.isLt

end Cert.ReferenceIdeal.Gla
-- ==== Proof.GlaTail.lean ====
module

public import proofs.«01_k».proof.Proof.GlaLoop

/-!
# The mixer's reference after its loop, index by index

The program after the loop is cut into the heads' norm and gate, the memory attention, the last projection's residual, and
the layer norm; each is read at an index.
-/

@[expose] public section
set_option maxRecDepth 16384
noncomputable section
open Idealize.ShloMosaic Idealize.ShloMosaic.TcCoe Idealize.ShloMosaic.Tactic
namespace Cert.ReferenceIdeal.Gla
open Cert.ReferenceIdeal Cert.ReferenceIdeal.Gen Cert.ReferenceIdeal.Step

variable (o : FVec Ideal S64x8x4x64x256 .f32) (x : FVec Ideal S8x4096x1024 .f32) (kv : FVec Ideal S4x8x256x1024 .bf16) (w : FVec Ideal S1024x3600 .f32)
  (g : FVec Ideal S16x512 .f32) (bg : FVec Ideal S512 .f32) (gain : FVec Ideal S256 .f32) (wo : FVec Ideal S2x1536x1024 .f32) (lg lb : FVec Ideal S1024 .f32)

/-- The heads' outputs laid out by token. -/
def tHeads : FVec Ideal S8x4096x4x256 .f32 :=
  shapeCast _ (transpose S8x64x64x4x256 [1, 0, 3, 2, 4] o transposes_S64x8x4x64x256_S8x64x64x4x256_1_0_3_2_4) shapeCasts_S8x64x64x4x256_S8x4096x4x256

/-- The heads' outputs over their root mean square, times the gain. -/
def tNorm : FVec Ideal S8x4096x4x256 .f32 :=
  mulf (mulf (tHeads o) (broadcastInDim S8x4096x4x256 ![0, 1, 2, 3] bcast_S8x4096x4x1_S8x4096x4x256_0_1_2_3 (Host.rsqrt (addf (Host.divf (broadcastInDim S8x4096x4x1 ![0, 1, 2] bcast_S8x4096x4_S8x4096x4x1_0_1_2 (Host.reduceAdd (mulf (tHeads o) (tHeads o)) (constant S_ .f32 0x00000000#32) reducesTo_S8x4096x4x256_S8x4096x4_d3 h_S_)) (broadcastInDim S8x4096x4x1 ![] bcast_S_S8x4096x4x1 (constant S_ .f32 0x43800000#32))) (broadcastInDim S8x4096x4x1 ![] bcast_S_S8x4096x4x1 (constant S_ .f32 0x358637BD#32))))))
    (broadcastInDim S8x4096x4x256 ![0, 1, 2, 3] bcast_S1x1x1x256_S8x4096x4x256_0_1_2_3 (broadcastInDim S1x1x1x256 ![3] bcast_S256_S1x1x1x256_3 gain))

/-- The output gate's columns. -/
def tGate : FVec Ideal S8x4096x1024 .f32 :=
  Host.dotGeneral dot_S8x4096x1024_S1024x1024_S8x4096x1024_2_0_01_1_n_n none x (extractStridedSlice S1024x1024 ![0, 2048] w slices_S1024x3600_S1024x1024_0_2048)

/-- The gated outputs. -/
def tGated : FVec Ideal S8x4096x1024 .f32 :=
  mulf (shapeCast _ (tNorm o gain) shapeCasts_S8x4096x4x256_S8x4096x1024)
    (mulf (tGate x w) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (tGate x w))))))

/-- The memory's keys and values of the layer. -/
def tKv : FVec Ideal S8x256x1024 .f32 :=
  extf .f32 (shapeCast _ (extractStridedSlice S1x8x256x1024 ![0, 0, 0, 0] kv slices_S4x8x256x1024_S1x8x256x1024_0_0_0_0) shapeCasts_S1x8x256x1024_S8x256x1024) bitsLt_bf16_f32

/-- The memory's scores. -/
def tScore : FVec Ideal S8x4x4096x256 .f32 :=
  mulf (Host.dotGeneral dot_S8x4096x4x128_S8x256x4x128_S8x4x4096x256_3_3_1_1_02_02 none
      (shapeCast _ (Host.dotGeneral dot_S8x4096x1024_S1024x512_S8x4096x512_2_0_01_1_n_n none x (extractStridedSlice S1024x512 ![0, 3088] w slices_S1024x3600_S1024x512_0_3088)) shapeCasts_S8x4096x512_S8x4096x4x128)
      (shapeCast _ (extractStridedSlice S8x256x512 ![0, 0, 0] (tKv kv) slices_S8x256x1024_S8x256x512_0_0_0) shapeCasts_S8x256x512_S8x256x4x128))
    (broadcastInDim S8x4x4096x256 ![] bcast_S_S8x4x4096x256 (constant S_ .f32 0x3DB504F3#32))

/-- The largest of a token's scores. -/
def tMax : FVec Ideal S8x4x4096 .f32 :=
  Host.reduce FloatOps.maximumf (tScore x kv w) (constant S_ .f32 0xFF800000#32) reducesTo_S8x4x4096x256_S8x4x4096_d3 h_S_

/-- The largest score, no less than minus infinity. -/
def tCap : FVec Ideal S8x4x4096 .f32 :=
  maximumf (broadcastInDim S8x4x4096 ![] bcast_S_S8x4x4096 (constant S_ .f32 0xFF800000#32)) (tMax x kv w)

/-- The memory's weights before their sum is divided out. -/
def tWeight : FVec Ideal S8x4x4096x256 .f32 :=
  Host.exp (subf (tScore x kv w) (broadcastInDim S8x4x4096x256 ![0, 1, 2, 3] bcast_S8x4x4096x1_S8x4x4096x256_0_1_2_3 (broadcastInDim S8x4x4096x1 ![0, 1, 2] bcast_S8x4x4096_S8x4x4096x1_0_1_2 (tCap x kv w))))

/-- The memory's outputs. -/
def tMemory : FVec Ideal S8x4096x512 .f32 :=
  shapeCast _ (transpose S8x4096x4x128 [0, 3, 1, 2] (Host.dotGeneral dot_S8x256x4x128_S8x4x4096x256_S8x4x128x4096_1_3_3_2_02_01 none
      (shapeCast _ (extractStridedSlice S8x256x512 ![0, 0, 512] (tKv kv) slices_S8x256x1024_S8x256x512_0_0_512) shapeCasts_S8x256x512_S8x256x4x128)
      (Host.divf (tWeight x kv w) (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd (tWeight x kv w) (constant S_ .f32 0x00000000#32) reducesTo_S8x4x4096x256_S8x4x4096_d3 h_S_)))))
    transposes_S8x4x128x4096_S8x4096x4x128_0_3_1_2) shapeCasts_S8x4096x4x128_S8x4096x512

/-- The last projection's rows. -/
def tRows : FVec Ideal S1536x1024 .f32 :=
  shapeCast _ (extractStridedSlice S1x1536x1024 ![0, 0, 0] wo slices_S2x1536x1024_S1x1536x1024_0_0_0) shapeCasts_S1x1536x1024_S1536x1024

/-- The residual. -/
def tResid : FVec Ideal S8x4096x1024 .f32 :=
  addf (mulf (broadcastInDim S8x4096x1024 ![] bcast_S_S8x4096x1024 (constant S_ .f32 0x3FD744FD#32)) x)
    (addf (Host.dotGeneral dot_S8x4096x1024_S1024x1024_S8x4096x1024_2_0_01_1_n_n none (tGated o x w gain) (extractStridedSlice S1024x1024 ![0, 0] (tRows wo) slices_S1536x1024_S1024x1024_0_0))
      (Host.dotGeneral dot_S8x4096x512_S512x1024_S8x4096x1024_2_0_01_1_n_n none (tMemory x kv w) (extractStridedSlice S512x1024 ![1024, 0] (tRows wo) slices_S1536x1024_S512x1024_1024_0)))

/-- The residual, centred. -/
def tCentre (z : FVec Ideal S8x4096x1024 .f32) : FVec Ideal S8x4096x1024 .f32 :=
  subf z (broadcastInDim S8x4096x1024 ![0, 1, 2] bcast_S8x4096x1_S8x4096x1024_0_1_2 (Host.divf (broadcastInDim S8x4096x1 ![0, 1] bcast_S8x4096_S8x4096x1_0_1 (Host.reduceAdd z (constant S_ .f32 0x00000000#32) reducesTo_S8x4096x1024_S8x4096_d2 h_S_)) (broadcastInDim S8x4096x1 ![] bcast_S_S8x4096x1 (constant S_ .f32 0x44800000#32))))

/-- The layer norm. -/
def tLayer (z : FVec Ideal S8x4096x1024 .f32) : FVec Ideal S8x4096x1024 .f32 :=
  addf (mulf (mulf (tCentre z) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (tCentre z) (tCentre z)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32))))))
      (broadcastInDim S8x4096x1024 ![0, 1, 2] bcast_S1x1x1024_S8x4096x1024_0_1_2 (broadcastInDim S1x1x1024 ![2] bcast_S1024_S1x1x1024_2 lg)))
    (broadcastInDim S8x4096x1024 ![0, 1, 2] bcast_S1x1x1024_S8x4096x1024_0_1_2 (broadcastInDim S1x1x1024 ![2] bcast_S1024_S1x1x1024_2 lb))

/-- The program after the loop is these pieces. -/
theorem tail_eq (s : State Ideal) :
    R_main_v154 s x kv w gain wo lg lb = tLayer lg lb (tResid s.main_v63_7 x kv w gain wo) := rfl

/-- The heads' outputs by token, at an index. -/
theorem heads_apply (a : Fin 8) (t : Fin 4096) (h : Fin 4) (e : Fin 256) :
    tHeads o (ix4 a t h e) = o (ix5 ⟨t.val / 64, by omega⟩ a h ⟨t.val % 64, Nat.mod_lt _ (by decide)⟩ e) := by
  pointwise [tHeads]

/-- The normed outputs at an index. -/
theorem norm_apply (a : Fin 8) (t : Fin 4096) (h : Fin 4) (e : Fin 256) :
    tNorm o gain (ix4 a t h e) = tHeads o (ix4 a t h e) * Ideal.rsqrt (Ideal.div (∑ k, tHeads o (ix4 a t h k) * tHeads o (ix4 a t h k)) (Ideal.ofBits .f32 0x43800000#32) + Ideal.ofBits .f32 0x358637BD#32) * gain (ix1 e) := by
  unfold tNorm
  generalize tHeads o = O
  pointwise

/-- The output gate at an index. -/
theorem gate_apply (a : Fin 8) (t : Fin 4096) (p : Fin 1024) :
    tGate x w (ix3 a t p) = ∑ k, x (ix3 a t k) * w (ix2 k ⟨2048 + p.val, by omega⟩) := by
  pointwise [tGate]

/-- The gated outputs at an index. -/
theorem gated_apply (a : Fin 8) (t : Fin 4096) (p : Fin 1024) :
    tGated o x w gain (ix3 a t p) = tNorm o gain (ix4 a t ⟨p.val / 256, by omega⟩ ⟨p.val % 256, Nat.mod_lt _ (by decide)⟩) * (tGate x w (ix3 a t p) * Ideal.logistic (tGate x w (ix3 a t p))) := by
  unfold tGated
  generalize tNorm o gain = N
  generalize tGate x w = G
  pointwise [Ideal.logistic]

/-- The memory's scores at an index. -/
theorem score_apply (a : Fin 8) (j : Fin 4) (t : Fin 4096) (r : Fin 256) :
    tScore x kv w (ix4 a j t r) = Mix.score (Mix.memQ (data x kv w g bg gain wo lg lb a) t j) (Mix.memK (data x kv w g bg gain wo lg lb a) j) r := by
  pointwise [tScore, tKv, Mix.score, Mix.memQ, Mix.memK, Mix.proj, Mix.scale]
  refine congrArg (· * _) (Finset.sum_congr rfl fun d _ => ?_)
  have e1 : (⟨3088 + (j.val * 128 + d.val), by omega⟩ : Fin 3600) = ⟨3088 + 128 * j.val + d.val, by omega⟩ := Fin.ext (by dsimp only; omega)
  have e2 : (⟨j.val * 128 + d.val, by omega⟩ : Fin 1024) = ⟨128 * j.val + d.val, by omega⟩ := Fin.ext (by dsimp only; omega)
  exact congrArg₂ (· * ·) (Finset.sum_congr rfl fun k _ => congrArg (fun p => x (ix3 a t k) * w (ix2 k p)) e1) (congrArg (fun p => kv (ix4 0 a r p)) e2)

/-- The largest score over the memory's rows. -/
theorem max_apply (X : FVec Ideal S8x4x4096x256 .f32) (a : Fin 8) (j : Fin 4) (t : Fin 4096) :
    Host.reduce (FloatOps.maximumf (F := Ideal)) X (constant (F := Ideal) S_ .f32 0xFF800000#32) reducesTo_S8x4x4096x256_S8x4x4096_d3 h_S_ (ix3 a j t)
      = Finset.univ.sup fun r => X (ix4 a j t r) := by
  rw [← Mix.fold_max]
  pointwise

/-- One number per token, spread over the memory's rows. -/
theorem spread_apply (C : FVec Ideal S8x4x4096 .f32) (a : Fin 8) (j : Fin 4) (t : Fin 4096) (r : Fin 256) :
    broadcastInDim S8x4x4096x256 ![0, 1, 2, 3] bcast_S8x4x4096x1_S8x4x4096x256_0_1_2_3 (broadcastInDim S8x4x4096x1 ![0, 1, 2] bcast_S8x4x4096_S8x4x4096x1_0_1_2 C) (ix4 a j t r) = C (ix3 a j t) := by
  pointwise

/-- The largest score, no less than minus infinity. -/
theorem cap_apply (i : S8x4x4096.Idx) : tCap x kv w i = max (Ideal.ofBits .f32 0xFF800000#32) (tMax x kv w i) := by
  unfold tCap
  rw [maximumf_apply]
  exact congrArg (fun z => max z (tMax x kv w i)) (rfl : broadcastInDim S8x4x4096 ![] bcast_S_S8x4x4096 (constant (F := Ideal) S_ .f32 0xFF800000#32) i = FloatOps.ofBits (F := Ideal) .f32 0xFF800000#32)

/-- The memory's weights at an index. -/
theorem weight_apply (a : Fin 8) (j : Fin 4) (t : Fin 4096) (r : Fin 256) :
    tWeight x kv w (ix4 a j t r) = Mix.weight (Mix.memQ (data x kv w g bg gain wo lg lb a) t j) (Mix.memK (data x kv w g bg gain wo lg lb a) j) r := by
  have hs := score_apply x kv w g bg gain wo lg lb a j t
  have hm : tMax x kv w (ix3 a j t) = Finset.univ.sup fun r => tScore x kv w (ix4 a j t r) := by
    unfold tMax
    exact max_apply (tScore x kv w) a j t
  have hw : tWeight x kv w (ix4 a j t r) = Ideal.exp (tScore x kv w (ix4 a j t r) - tCap x kv w (ix3 a j t)) :=
    congrArg (fun z => Ideal.exp (tScore x kv w (ix4 a j t r) - z)) (spread_apply (tCap x kv w) a j t r)
  have hb : Ideal.ofBits .f32 0xFF800000#32 = ⊥ := by simp [Ideal.ofBits, Ideal.ieee]
  rw [hw, cap_apply, hm, hb, max_eq_right bot_le, Mix.weight]
  simp only [hs]

/-- The memory's outputs at an index. -/
theorem memory_apply (a : Fin 8) (t : Fin 4096) (p : Fin 512) :
    tMemory x kv w (ix3 a t p) = Mix.memAt (data x kv w g bg gain wo lg lb a) t ⟨p.val / 128, by omega⟩ ⟨p.val % 128, Nat.mod_lt _ (by decide)⟩ := by
  have hs := weight_apply x kv w g bg gain wo lg lb a
  unfold tMemory
  generalize tWeight x kv w = S at hs ⊢
  pointwise [Mix.memAt, Mix.memory, tKv, hs, Mix.memV]
  refine Finset.sum_congr rfl fun r _ => ?_
  have e : (⟨512 + p.val, by omega⟩ : Fin 1024) = ⟨512 + 128 * (p.val / 128) + p.val % 128, by omega⟩ := Fin.ext (by dsimp only; omega)
  rw [e, mul_comm]
  rfl

/-- The layer norm at an index. -/
theorem layer_apply (z : FVec Ideal S8x4096x1024 .f32) (a : Fin 8) (t : Fin 4096) (d : Fin 1024) :
    tLayer lg lb z (ix3 a t d) = Rows.layerNorm (fun k => z (ix3 a t k)) (fun k => lg (ix1 k)) (fun k => lb (ix1 k)) d := by
  have hc : ∀ d, tCentre z (ix3 a t d) = z (ix3 a t d) - Rows.mean (fun k => z (ix3 a t k)) := fun d => by
    pointwise [tCentre, Rows.mean]
  unfold tLayer
  generalize tCentre z = C at hc ⊢
  pointwise [Rows.layerNorm, Rows.mean, hc]

/-- The residual at an index. -/
theorem resid_apply (a : Fin 8) (t : Fin 4096) (d : Fin 1024)
    (ho : ∀ (n : Fin 64) (h : Fin 4) (i : Fin 64) (e : Fin 256), o (ix5 n a h i e) = Mix.outAt (data x kv w g bg gain wo lg lb a) h n i e) :
    tResid o x kv w gain wo (ix3 a t d)
      = Mix.residAt (data x kv w g bg gain wo lg lb a) (t.val / 64) ⟨t.val % 64, Nat.mod_lt _ (by decide)⟩ d := by
  have ht : Mix.tok (t.val / 64) ⟨t.val % 64, Nat.mod_lt _ (by decide)⟩ = t := Fin.ext (by show (64 * (t.val / 64) + t.val % 64) % 4096 = t.val; omega)
  have hg : ∀ p : Fin 1024, tGated o x w gain (ix3 a t p) = Mix.gatedAt (data x kv w g bg gain wo lg lb a) ⟨p.val / 256, by omega⟩ (t.val / 64) ⟨t.val % 64, Nat.mod_lt _ (by decide)⟩ ⟨p.val % 256, Nat.mod_lt _ (by decide)⟩ := by
    intro p
    rw [gated_apply, norm_apply]
    simp only [heads_apply, ho, gate_apply]
    unfold Mix.gatedAt Mix.gated Mix.proj
    rw [ht]
    have hp : (⟨2048 + 256 * (p.val / 256) + p.val % 256, by omega⟩ : Fin 3600) = ⟨2048 + p.val, by omega⟩ := Fin.ext (by dsimp only; omega)
    simp only [hp]
    rfl
  have hm := memory_apply x kv w g bg gain wo lg lb a t
  unfold tResid
  generalize tGated o x w gain = G at hg ⊢
  generalize tMemory x kv w = M at hm ⊢
  pointwise [tRows, hg, hm, Mix.residAt, ht]
  rfl

/-- The mixer reference's result at an index. -/
theorem result_apply (m : (ℓ : Loc nD τ sig) → Buf (Elt Ideal) ℓ) (c : Dev nD) (a : Fin 8) (t : Fin 4096) (d : Fin 1024) :
    R_main_v154 (states m c 64) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (ix3 a t d)
      = Mix.resultAt (inputs m c a) (t.val / 64) ⟨t.val % 64, Nat.mod_lt _ (by decide)⟩ d := by
  rw [tail_eq, layer_apply]
  simp only [fun d => resid_apply _ _ _ _ (m ((c.tc : Thread nD τ).loc main_arg3)) (m ((c.tc : Thread nD τ).loc main_arg4)) _ _ (m ((c.tc : Thread nD τ).loc main_arg7)) (m ((c.tc : Thread nD τ).loc main_arg8)) a t d
    (fun n h i e => outs_apply m c n a h i e)]
  rfl

end Cert.ReferenceIdeal.Gla
-- ==== Proof.GlaClaim.lean ====
/-
  The gated linear attention mixer: the kernel's result array and the reference's result are the same function of the nine
  arguments wherever the memory's scores are real numbers, so both programs end with the same value.
-/
module

public import proofs.«01_k».proof.Proof.GlaArray
public import proofs.«01_k».proof.Proof.GlaTail
public import proofs.«01_k».proof.Proof.Gen.KernelIdeal.Value
public import proofs.«01_k».proof.Proof.Gen.ReferenceIdeal.Run
public import proofs.«01_k».proof.Proof.Gen.Pre_finite
public import proofs.«01_k».proof.Defs

@[expose] public section

set_option maxRecDepth 16384

noncomputable section

open Idealize.ShloMosaic Idealize.SL.Sem Idealize.ShloMosaic.TcCoe Idealize.ShloMosaic.StableHlo Idealize.ShloMosaic.Tactic

namespace Cert.Gla

/-! ### IsReal numbers among the extended reals -/

/-- An extended real that is a real number. -/
def IsReal (x : EReal) : Prop := ∃ r : ℝ, x = r

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is one. -/
theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih =>
    rw [Finset.sum_insert hi]
    obtain ⟨a, ha⟩ := h i
    obtain ⟨b, hb⟩ := ih
    exact ⟨a + b, by rw [ha, hb, EReal.coe_add]⟩

/-- A real number is neither infinity. -/
theorem IsReal.ne {x : EReal} (h : IsReal x) : x ≠ ⊤ ∧ x ≠ ⊥ := by
  obtain ⟨r, rfl⟩ := h
  exact ⟨EReal.coe_ne_top r, EReal.coe_ne_bot r⟩

/-- An extended real whose absolute value is below infinity is a real number. -/
theorem IsReal.of_abs {x : EReal} (h : max x (-x) < ⊤) : IsReal x := by
  induction x with
  | bot => simp at h
  | top => simp at h
  | coe r => exact ⟨r, rfl⟩

/-- The mask's bit says so. -/
theorem IsReal.of_mask {x : EReal} (h : BitVec.ofBool (decide (FloatOps.absf (F := Ideal) (φ := .f32) x < Ideal.ofBits .f32 0x7F800000#32)) = 1#1) : IsReal x := by
  have ht : Ideal.ofBits .f32 0x7F800000#32 = ⊤ := by simp [Ideal.ofBits, Ideal.ieee]
  rw [ht] at h
  by_cases hx : max x (-x) < ⊤
  · exact IsReal.of_abs hx
  · exact absurd (h.symm.trans (congrArg BitVec.ofBool (decide_eq_false hx))) (by decide)

/-- The scale of the scores is a real number. -/
theorem real_scale : IsReal Mix.scale := by
  unfold Mix.scale
  simp [Ideal.ofBits, Ideal.ieee]
  exact IsReal.mul ⟨_, rfl⟩ ⟨_, rfl⟩

section Pre

variable (x : FVec Ideal Pre_finite.S8x4096x1024 .f32) (kv : FVec Ideal Pre_finite.S4x8x256x1024 .bf16) (w : FVec Ideal Pre_finite.S1024x3600 .f32)
  (g : FVec Ideal Pre_finite.S16x512 .f32) (bg : FVec Ideal Pre_finite.S512 .f32) (gain : FVec Ideal Pre_finite.S256 .f32)
  (wo : FVec Ideal Pre_finite.S2x1536x1024 .f32) (lg lb : FVec Ideal Pre_finite.S1024 .f32)

/-- The first mask says the tokens are real numbers. -/
theorem mask_x (h : (Pre_finite.fn (F := Ideal) x kv w g bg gain wo lg lb).1 = fun _ => 1#1) (a : Fin 8) (t : Fin 4096) (k : Fin 1024) : IsReal (x (ix3 a t k)) := by
  have hk := congrFun h (ix3 a t k)
  pointwise [Pre_finite.fn] at hk
  exact IsReal.of_mask hk

/-- The second mask says the memory's query columns are real numbers. -/
theorem mask_w (h : (Pre_finite.fn (F := Ideal) x kv w g bg gain wo lg lb).2.1 = fun _ => 1#1) (k : Fin 1024) (p : Fin 512) : IsReal (w (ix2 k ⟨3088 + p.val, by omega⟩)) := by
  have hk := congrFun h (ix2 k p)
  pointwise [Pre_finite.fn] at hk
  exact IsReal.of_mask hk

/-- The third mask says the memory's keys are real numbers. -/
theorem mask_kv (h : (Pre_finite.fn (F := Ideal) x kv w g bg gain wo lg lb).2.2 = fun _ => 1#1) (a : Fin 8) (r : Fin 256) (p : Fin 512) : IsReal (kv (ix4 0 a r ⟨p.val, by omega⟩)) := by
  have hk := congrFun h (ix3 a r p)
  pointwise [Pre_finite.fn] at hk
  exact IsReal.of_mask hk

end Pre

/-- Under the precondition the memory's scores are real numbers. -/
theorem finite (m : (ℓ : Loc KernelIdeal.nD KernelIdeal.τ KernelIdeal.sig) → Buf (Elt Ideal) ℓ) (h : Pre_KernelIdeal_finite m) (c : Dev KernelIdeal.nD) (a : Fin 8) :
    Mix.Finite (KernelIdeal.Gla.data m c a) := by
  obtain ⟨hx, hw, hk⟩ := h c
  have hx := mask_x _ _ _ _ _ _ _ _ _ hx
  have hw := mask_w _ _ _ _ _ _ _ _ _ hw
  have hk := mask_kv _ _ _ _ _ _ _ _ _ hk
  intro t j r
  have hq : ∀ d, IsReal (Mix.memQ (KernelIdeal.Gla.data m c a) t j d) := fun d => by
    unfold Mix.memQ Mix.proj
    refine IsReal.sum _ _ fun k => IsReal.mul (hx a t k) ?_
    have e : (⟨3088 + 128 * j.val + d.val, by omega⟩ : Fin 3600) = ⟨3088 + (128 * j.val + d.val), by omega⟩ := Fin.ext (by dsimp only; omega)
    rw [e]
    exact hw k ⟨128 * j.val + d.val, by omega⟩
  exact IsReal.ne (IsReal.mul (IsReal.sum _ _ fun d => IsReal.mul (hq d) (hk a r ⟨128 * j.val + d.val, by omega⟩)) real_scale)

/-- The reference's result on a device is the kernel's result array there, from equal arguments. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hf : ∀ a, Mix.Finite (KernelIdeal.Gla.data m c a))
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8)) :
    (ReferenceIdeal.Value.out_main_v154 (ReferenceIdeal.Value.STEP^[64] (entryContents ReferenceIdeal.Value.preI m' c)) : Vec Ideal ReferenceIdeal.S8x4096x1024 .f32)
      = ((KernelIdeal.Gen.dats m 0 c).arrAt 9 KernelIdeal.cfg0.N : (⟨KernelIdeal.S8x4096x1024, .f32⟩ : BufTy).Contents (Elt Ideal)) := by
  have hd : ∀ a, ReferenceIdeal.Gla.inputs m' c a = KernelIdeal.Gla.data m c a := fun a => by
    unfold ReferenceIdeal.Gla.inputs
    rw [h0, h1, h2, h3, h4, h5, h6, h7, h8]
    rfl
  rw [ReferenceIdeal.Gla.result_of_states]
  funext i
  rw [ValueIdx.eq_ix3 i]
  exact (ReferenceIdeal.Gla.result_apply m' c _ _ _).trans
    ((congrArg (fun D => Mix.resultAt D _ _ _) (hd _)).trans (KernelIdeal.Gla.array_apply m c hf _ _ _).symm)

/-- The mixer's kernel and reference end with equal results from equal arguments. -/
theorem algebraic : algebraic_KernelIdeal_ReferenceIdeal_pre_finite := by
  intro m g m' g' hp h
  refine ⟨fun c => (KernelIdeal.Gen.dats m 0 c).arrAt 9 KernelIdeal.cfg0.N, KernelIdeal.Value.run_blocks m g, ?_⟩
  refine (θ_run ReferenceIdeal.defs _ _).mono (fun r hr c => ?_) (ReferenceIdeal.Value.run (F := Ideal) m' g')
  obtain ⟨h0, h1, h2, h3, h4, h5, h6, h7, h8⟩ := h c
  exact ⟨(hr c).1.trans (result_eq m m' c (finite m hp c) h0 h1 h2 h3 h4 h5 h6 h7 h8), (hr c).2⟩

end Cert.Gla

end
-- ==== Proof.FfnBlock.lean ====
/-
  The feed-forward kernel's block: what one grid point leaves in its output block of 512 tokens. The kernel takes the
  hidden layer in eleven runs of 256 columns and adds up the eleven products; every run is one function of its run
  number, so the eleven are read once.
-/
module

public import proofs.«01_k».proof.Proof.Gen.Kernel2Ideal.Value
public import proofs.«01_k».proof.Proof.Rows

@[expose] public section

set_option maxRecDepth 16384

noncomputable section

open Idealize.ShloMosaic

namespace Cert.Kernel2Ideal.Ffn

open Cert.Kernel2Ideal Cert.Kernel2Ideal.Gen

/-- One run's hidden columns: gate and up products of the block with 256 columns each, gated. -/
def hid (x : Vec Ideal S512x1024 .f32) (gate up : Vec Ideal S1x1024x256 .f32) : FVec Ideal S512x256 .bf16 :=
  have a : FVec Ideal S512x256 .f32 := matmul dot_S512x1024_S1024x256_S512x256_1_0_0_1_n_n none
    (truncf .bf16 x bitsLt_bf16_f32 : FVec Ideal S512x1024 .bf16)
    (truncf .bf16 (shapeCast S1024x256 gate shapeCasts_S1x1024x256_S1024x256 : FVec Ideal S1024x256 .f32) bitsLt_bf16_f32) (constant S512x256 .f32 0x00000000#32)
  have b : FVec Ideal S512x256 .f32 := matmul dot_S512x1024_S1024x256_S512x256_1_0_0_1_n_n none
    (truncf .bf16 x bitsLt_bf16_f32 : FVec Ideal S512x1024 .bf16)
    (truncf .bf16 (shapeCast S1024x256 up shapeCasts_S1x1024x256_S1024x256 : FVec Ideal S1024x256 .f32) bitsLt_bf16_f32) (constant S512x256 .f32 0x00000000#32)
  truncf .bf16 (mulf (mulf a (logistic a)) b) bitsLt_bf16_f32

/-- One run's product with its 256 rows of the down projection. -/
def run (x : Vec Ideal S512x1024 .f32) (gate up : Vec Ideal S1x1024x256 .f32) (down : Vec Ideal S1x256x1024 .f32) :
    FVec Ideal S512x1024 .f32 :=
  matmul dot_S512x256_S256x1024_S512x1024_1_0_0_1_n_n none (hid x gate up)
    (truncf .bf16 (shapeCast S256x1024 down shapeCasts_S1x256x1024_S256x1024 : FVec Ideal S256x1024 .f32) bitsLt_bf16_f32) (constant S512x1024 .f32 0x00000000#32)

/-- A run's product at a token and a column. -/
theorem run_apply (x : Vec Ideal S512x1024 .f32) (gate up : Vec Ideal S1x1024x256 .f32) (down : Vec Ideal S1x256x1024 .f32)
    (r : Fin 512) (d : Fin 1024) :
    run x gate up down (ix2 r d) = ∑ j : Fin 256, Rows.hidden (fun k => x (ix2 r k)) (fun k => gate (ix3 0 k j)) (fun k => up (ix3 0 k j))
      * down (ix3 0 j d) := by
  pointwise [run, hid, Rows.hidden]

/-- Where run `n` reads its 256 gate columns. -/
theorem inG (n : Fin 11) : ∀ a, (![0, 0, 256 * n.val] : Fin 3 → Nat) a + S1x1024x256.size a ≤ S1x1024x5632.size a := by
  intro a; fin_cases a <;> simp [S1x1024x256, S1x1024x5632] <;> omega
/-- Where run `n` reads its 256 up columns. -/
theorem inU (n : Fin 11) : ∀ a, (![0, 0, 2816 + 256 * n.val] : Fin 3 → Nat) a + S1x1024x256.size a ≤ S1x1024x5632.size a := by
  intro a; fin_cases a <;> simp [S1x1024x256, S1x1024x5632] <;> omega
/-- Where run `n` reads its 256 rows of the down projection. -/
theorem inD (n : Fin 11) : ∀ a, (![0, 256 * n.val, 0] : Fin 3 → Nat) a + S1x256x1024.size a ≤ S1x2816x1024.size a := by
  intro a; fin_cases a <;> simp [S1x256x1024, S1x2816x1024] <;> omega

/-- Run `n` of the block: the run's product at the columns and rows it loads. -/
def runAt (x0 : Vec Ideal S512x1024 .f32) (x1 : Vec Ideal S1x1024x5632 .f32) (x2 : Vec Ideal S1x2816x1024 .f32) (n : Fin 11) :
    FVec Ideal S512x1024 .f32 :=
  run (View.ld x0 r0_0)
    (View.ld x1 (Rect.unit (s := S1x1024x5632) ![0, 0, 256 * n.val] S1x1024x256.size (inG n)))
    (View.ld x1 (Rect.unit (s := S1x1024x5632) ![0, 0, 2816 + 256 * n.val] S1x1024x256.size (inU n)))
    (View.ld x2 (Rect.unit (s := S1x2816x1024) ![0, 256 * n.val, 0] S1x256x1024.size (inD n)))

/-- The block before its norm: the scaled tokens plus half the eleven runs added first to last. -/
def pre (x0 : Vec Ideal S512x1024 .f32) (x1 : Vec Ideal S1x1024x5632 .f32) (x2 : Vec Ideal S1x2816x1024 .f32) : FVec Ideal S512x1024 .f32 :=
  addf (mulf (broadcast S512x1024 (Scalar.ofBits .f32 0x3FD744FD#32)) (View.ld x0 r0_0))
    (mulf (broadcast S512x1024 (Scalar.ofBits .f32 0x3F000000#32))
      (addf (addf (addf (addf (addf (addf (addf (addf (addf (addf (addf (broadcast S512x1024 (Scalar.ofBits .f32 0x00000000#32))
        (runAt x0 x1 x2 0)) (runAt x0 x1 x2 1)) (runAt x0 x1 x2 2)) (runAt x0 x1 x2 3)) (runAt x0 x1 x2 4)) (runAt x0 x1 x2 5))
        (runAt x0 x1 x2 6)) (runAt x0 x1 x2 7)) (runAt x0 x1 x2 8)) (runAt x0 x1 x2 9)) (runAt x0 x1 x2 10)))

/-- The norm over a block's rows, as the kernel takes it. -/
def norm (z : FVec Ideal S512x1024 .f32) (g b : FVec Ideal S1x1024 .f32) : FVec Ideal S512x1024 .f32 :=
  have mu : FVec Ideal S512x1 .f32 := divf (shapeCast S512x1 (multiReduction .add [1] S512 z 0x00000000#32 reduces_S512x1024_S512 (.inl rfl) rfl)
    shapeCasts_S512_S512x1) (broadcast S512x1 (Scalar.ofBits .f32 0x44800000#32))
  have cz : FVec Ideal S512x1024 .f32 := subf z (broadcastTo S512x1024 mu broadcasts_S512x1_S512x1024)
  have var : FVec Ideal S512x1 .f32 := divf (shapeCast S512x1 (multiReduction .add [1] S512 (mulf cz cz) 0x00000000#32 reduces_S512x1024_S512 (.inl rfl) rfl)
    shapeCasts_S512_S512x1) (broadcast S512x1 (Scalar.ofBits .f32 0x44800000#32))
  addf (mulf (mulf cz (broadcastTo S512x1024 (rsqrt (addf var (broadcast S512x1 (Scalar.ofBits .f32 0x3727C5AC#32)))) broadcasts_S512x1_S512x1024))
    (broadcastTo S512x1024 g broadcasts_S1x1024_S512x1024)) (broadcastTo S512x1024 b broadcasts_S1x1024_S512x1024)

/-- The norm at a token and a column is the row's layer norm. -/
theorem norm_apply (z : FVec Ideal S512x1024 .f32) (g b : FVec Ideal S1x1024 .f32) (r : Fin 512) (d : Fin 1024) :
    norm z g b (ix2 r d) = Rows.layerNorm (fun k => z (ix2 r k)) (fun k => g (ix2 0 k)) (fun k => b (ix2 0 k)) d := by
  pointwise [norm, Rows.layerNorm, Rows.mean]

/-- The pieces the body stores are the one block: the norm of the sum of the runs. -/
theorem out_eq (x0 : Vec Ideal S512x1024 .f32) (x1 : Vec Ideal S1x1024x5632 .f32) (x2 : Vec Ideal S1x2816x1024 .f32) (x3 x4 : Vec Ideal S1x1024 .f32) :
    out0_5 x0 x1 x2 x3 x4 = View.canon [⟨r0_0, norm (pre x0 x1 x2)
      (shapeCast S1x1024 (View.ld x3 r0_34) shapeCasts_S1x1024_S1x1024) (shapeCast S1x1024 (View.ld x4 r0_34) shapeCasts_S1x1024_S1x1024)⟩] := by
  unfold_out out0_5
  rfl

end Cert.Kernel2Ideal.Ffn

end
-- ==== Proof.FfnArray.lean ====
/-
  The feed-forward kernel's result array, index by index: token `r` lies in block `r / 512` at row `r % 512`, and the
  block's value there is the layer norm of the token's half step.
-/
module

public import proofs.«01_k».proof.Proof.FfnBlock
public import Idealize.ShloMosaic.Lib.StableHlo.Run

@[expose] public section

set_option maxRecDepth 16384

noncomputable section

open Idealize.ShloMosaic Idealize.ShloMosaic.TcCoe

namespace Cert.Kernel2Ideal.Ffn

open Cert.Kernel2Ideal Cert.Kernel2Ideal.Gen

theorem hz2 : (![0, 0] : Fin 2 → Nat) = fun _ => 0 := funext fun a => by fin_cases a <;> rfl

/-- Run `n` of a block at a token and a column, over the block's own rows and columns. -/
theorem runAt_apply (x0 : Vec Ideal S512x1024 .f32) (x1 : Vec Ideal S1x1024x5632 .f32) (x2 : Vec Ideal S1x2816x1024 .f32) (n : Fin 11)
    (r : Fin 512) (d : Fin 1024) :
    runAt x0 x1 x2 n (ix2 r d) = ∑ j : Fin 256, Rows.hidden (fun k => x0 (ix2 r k)) (fun k => x1 (ix3 0 k ⟨256 * n.val + j.val, by omega⟩))
      (fun k => x1 (ix3 0 k ⟨2816 + (256 * n.val + j.val), by omega⟩)) * x2 (ix3 0 ⟨256 * n.val + j.val, by omega⟩ d) := by
  unfold runAt
  rw [run_apply]
  have e0 : ∀ k : Fin 1024, (View.ld x0 r0_0 : Vec Ideal S512x1024 .f32) (ix2 r k) = x0 (ix2 r k) :=
    fun k => congrFun (View.ld_unit_zero hz2 _ x0) (ix2 r k)
  have eG : ∀ (k : Fin 1024) (j : Fin 256), (View.ld x1 (Rect.unit (s := S1x1024x5632) ![0, 0, 256 * n.val] S1x1024x256.size (inG n)) : Vec Ideal S1x1024x256 .f32) (ix3 0 k j)
      = x1 (ix3 0 k ⟨256 * n.val + j.val, by omega⟩) := fun k j => by
    refine congrArg x1 (funext fun a => Fin.ext ?_)
    match a with
    | ⟨0, _⟩ => rfl
    | ⟨1, _⟩ => show 0 + 1 * k.val = k.val; omega
    | ⟨2, _⟩ => show 256 * n.val + 1 * j.val = 256 * n.val + j.val; omega
  have eU : ∀ (k : Fin 1024) (j : Fin 256), (View.ld x1 (Rect.unit (s := S1x1024x5632) ![0, 0, 2816 + 256 * n.val] S1x1024x256.size (inU n)) : Vec Ideal S1x1024x256 .f32) (ix3 0 k j)
      = x1 (ix3 0 k ⟨2816 + (256 * n.val + j.val), by omega⟩) := fun k j => by
    refine congrArg x1 (funext fun a => Fin.ext ?_)
    match a with
    | ⟨0, _⟩ => rfl
    | ⟨1, _⟩ => show 0 + 1 * k.val = k.val; omega
    | ⟨2, _⟩ => show 2816 + 256 * n.val + 1 * j.val = 2816 + (256 * n.val + j.val); omega
  have eD : ∀ (j : Fin 256), (View.ld x2 (Rect.unit (s := S1x2816x1024) ![0, 256 * n.val, 0] S1x256x1024.size (inD n)) : Vec Ideal S1x256x1024 .f32) (ix3 0 j d)
      = x2 (ix3 0 ⟨256 * n.val + j.val, by omega⟩ d) := fun j => by
    refine congrArg x2 (funext fun a => Fin.ext ?_)
    match a with
    | ⟨0, _⟩ => rfl
    | ⟨1, _⟩ => show 256 * n.val + 1 * j.val = 256 * n.val + j.val; omega
    | ⟨2, _⟩ => show 0 + 1 * d.val = d.val; omega
  simp only [e0, eG, eU, eD]

/-- The block before its norm is the token's half step. -/
theorem pre_apply (x0 : Vec Ideal S512x1024 .f32) (x1 : Vec Ideal S1x1024x5632 .f32) (x2 : Vec Ideal S1x2816x1024 .f32)
    (r : Fin 512) (d : Fin 1024) :
    pre x0 x1 x2 (ix2 r d) = Rows.halfStep (fun k => x0 (ix2 r k)) (fun k p => x1 (ix3 0 k p)) (fun p k => x2 (ix3 0 p k)) d := by
  have h : (∑ n : Fin 11, runAt x0 x1 x2 n (ix2 r d)) = ∑ p : Fin 2816, Rows.hidden (fun k => x0 (ix2 r k)) (fun k => x1 (ix3 0 k ⟨p.val, by omega⟩))
      (fun k => x1 (ix3 0 k ⟨2816 + p.val, by omega⟩)) * x2 (ix3 0 p d) := by
    simp only [runAt_apply]
    exact Rows.sum_runs fun p => Rows.hidden (fun k => x0 (ix2 r k)) (fun k => x1 (ix3 0 k ⟨p.val, by omega⟩))
      (fun k => x1 (ix3 0 k ⟨2816 + p.val, by omega⟩)) * x2 (ix3 0 p d)
  have e0 : (View.ld x0 r0_0 : Vec Ideal S512x1024 .f32) = x0 := View.ld_unit_zero hz2 _ x0
  unfold Rows.halfStep
  rw [← h]
  simp only [Fin.sum_univ_succ, Fin.sum_univ_zero, add_zero]
  unfold pre
  rw [e0]
  pointwise
  simp only [add_assoc]
  rfl

/-- What a point leaves in its block, at a token and a column. -/
theorem out_apply (x0 : Vec Ideal S512x1024 .f32) (x1 : Vec Ideal S1x1024x5632 .f32) (x2 : Vec Ideal S1x2816x1024 .f32) (x3 x4 : Vec Ideal S1x1024 .f32)
    (r : Fin 512) (d : Fin 1024) :
    out0_5 x0 x1 x2 x3 x4 (ix2 r d)
      = Rows.layerNorm (Rows.halfStep (fun k => x0 (ix2 r k)) (fun k p => x1 (ix3 0 k p)) (fun p k => x2 (ix3 0 p k)))
          (fun k => x3 (ix2 0 k)) (fun k => x4 (ix2 0 k)) d := by
  have e3 : (View.ld x3 r0_34 : Vec Ideal S1x1024 .f32) = x3 := View.ld_unit_zero hz2 _ x3
  have e4 : (View.ld x4 r0_34 : Vec Ideal S1x1024 .f32) = x4 := View.ld_unit_zero hz2 _ x4
  rw [out_eq, View.canon_unit_zero hz2, norm_apply, e3, e4]
  simp only [pre_apply]
  pointwise

variable (m : (ℓ : Loc nD τ sig) → Buf (Elt Ideal) ℓ) (c : Dev nD)

/-- The gain as the kernel is handed it: the argument as one row. -/
theorem gain_apply (k : Fin 1024) : (V m c main_v0 : Vec Ideal S1x1024 .f32) (ix2 0 k) = m ((c : Thread nD τ).loc main_arg3) (ix1 k) := by
  have h : (V m c main_v0 : Vec Ideal S1x1024 .f32) = shapeCast S1x1024 (m ((c : Thread nD τ).loc main_arg3) : Vec Ideal S1024 .f32) shapeCasts_S1024_S1x1024 := by
    show StableHlo.after hostOps0 _ (Proc.devRef .tc main_v0) = _
    after_results
    rfl
  rw [h]
  pointwise

/-- The offset as the kernel is handed it: the argument as one row. -/
theorem offset_apply (k : Fin 1024) : (V m c main_v1 : Vec Ideal S1x1024 .f32) (ix2 0 k) = m ((c : Thread nD τ).loc main_arg4) (ix1 k) := by
  have h : (V m c main_v1 : Vec Ideal S1x1024 .f32) = shapeCast S1x1024 (m ((c : Thread nD τ).loc main_arg4) : Vec Ideal S1024 .f32) shapeCasts_S1024_S1x1024 := by
    show StableHlo.after hostOps0 _ (Proc.devRef .tc main_v1) = _
    after_results
    rfl
  rw [h]
  pointwise

/-- Which block each window reads or writes at a point: the tokens' windows move with the point, the weights' stay. -/
theorem index_facts : ∀ t : Fin cfg0.N, (win0_0.index t 0 = t.val ∧ win0_0.index t 1 = 0) ∧ (win0_1.index t 0 = 0 ∧ win0_1.index t 1 = 0 ∧ win0_1.index t 2 = 0)
    ∧ (win0_2.index t 0 = 0 ∧ win0_2.index t 1 = 0 ∧ win0_2.index t 2 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0 ∧ win0_1.index t 2 = 0)
    ∧ (win0_2.index t 0 = 0 ∧ win0_2.index t 1 = 0 ∧ win0_2.index t 2 = 0) ∧ (win0_3.index t 0 = 0 ∧ win0_3.index t 1 = 0)
    ∧ (win0_4.index t 0 = 0 ∧ win0_4.index t 1 = 0) ∧ (win0_5.index t 0 = t.val ∧ win0_5.index t 1 = 0))

/-- The number of points. -/
theorem points : cfg0.N = 64 := rfl

/-- Point `t`'s tokens are rows `512 t …` of the argument. -/
theorem blk0_apply (t : Fin cfg0.N) (r : Fin 512) (k : Fin 1024) :
    (iblk m c 0 t : Vec Ideal S512x1024 .f32) (ix2 r k) = m ((c : Thread nD τ).loc main_arg0) (ix2 ⟨512 * t.val + r.val, by have := t.isLt; have := points; omega⟩ k) := by
  obtain ⟨⟨h0, h1⟩, -⟩ := index_facts t
  rw [← V_main_arg0 m c]
  show V m c main_arg0 _ = V m c main_arg0 _
  refine congrArg (V m c main_arg0) (funext fun a => Fin.ext ?_)
  match a with
  | ⟨0, _⟩ => show win0_0.index t 0 * 512 + 1 * r.val = 512 * t.val + r.val; omega
  | ⟨1, _⟩ => show win0_0.index t 1 * 1024 + 1 * k.val = k.val; omega

/-- Every point's gate and up weights are layer 0 of the argument. -/
theorem blk1_apply (t : Fin cfg0.N) (k : Fin 1024) (p : Fin 5632) :
    (iblk m c 1 t : Vec Ideal S1x1024x5632 .f32) (ix3 0 k p) = m ((c : Thread nD τ).loc main_arg1) (ix3 0 k p) := by
  obtain ⟨-, ⟨h0, h1, h2⟩, -⟩ := index_facts t
  rw [← V_main_arg1 m c]
  show V m c main_arg1 _ = V m c main_arg1 _
  refine congrArg (V m c main_arg1) (funext fun a => Fin.ext ?_)
  match a with
  | ⟨0, _⟩ => show win0_1.index t 0 * 1 + 1 * 0 = 0; omega
  | ⟨1, _⟩ => show win0_1.index t 1 * 1024 + 1 * k.val = k.val; omega
  | ⟨2, _⟩ => show win0_1.index t 2 * 5632 + 1 * p.val = p.val; omega

/-- Every point's down weights are layer 0 of the argument. -/
theorem blk2_apply (t : Fin cfg0.N) (p : Fin 2816) (k : Fin 1024) :
    (iblk m c 2 t : Vec Ideal S1x2816x1024 .f32) (ix3 0 p k) = m ((c : Thread nD τ).loc main_arg2) (ix3 0 p k) := by
  obtain ⟨-, -, ⟨h0, h1, h2⟩, -⟩ := index_facts t
  rw [← V_main_arg2 m c]
  show V m c main_arg2 _ = V m c main_arg2 _
  refine congrArg (V m c main_arg2) (funext fun a => Fin.ext ?_)
  match a with
  | ⟨0, _⟩ => show win0_2.index t 0 * 1 + 1 * 0 = 0; omega
  | ⟨1, _⟩ => show win0_2.index t 1 * 2816 + 1 * p.val = p.val; omega
  | ⟨2, _⟩ => show win0_2.index t 2 * 1024 + 1 * k.val = k.val; omega

/-- Every point's gain is the argument. -/
theorem blk3_apply (t : Fin cfg0.N) (k : Fin 1024) :
    (iblk m c 3 t : Vec Ideal S1x1024 .f32) (ix2 0 k) = m ((c : Thread nD τ).loc main_arg3) (ix1 k) := by
  obtain ⟨-, -, -, ⟨h0, h1⟩, -⟩ := index_facts t
  rw [← gain_apply m c k]
  show V m c main_v0 _ = V m c main_v0 _
  refine congrArg (V m c main_v0) (funext fun a => Fin.ext ?_)
  match a with
  | ⟨0, _⟩ => show win0_3.index t 0 * 1 + 1 * 0 = 0; omega
  | ⟨1, _⟩ => show win0_3.index t 1 * 1024 + 1 * k.val = k.val; omega

/-- Every point's offset is the argument. -/
theorem blk4_apply (t : Fin cfg0.N) (k : Fin 1024) :
    (iblk m c 4 t : Vec Ideal S1x1024 .f32) (ix2 0 k) = m ((c : Thread nD τ).loc main_arg4) (ix1 k) := by
  obtain ⟨-, -, -, -, ⟨h0, h1⟩, -⟩ := index_facts t
  rw [← offset_apply m c k]
  show V m c main_v1 _ = V m c main_v1 _
  refine congrArg (V m c main_v1) (funext fun a => Fin.ext ?_)
  match a with
  | ⟨0, _⟩ => show win0_4.index t 0 * 1 + 1 * 0 = 0; omega
  | ⟨1, _⟩ => show win0_4.index t 1 * 1024 + 1 * k.val = k.val; omega

/-- The result array at token `512 t + r`: what point `t` left there. -/
theorem array_apply (r : Fin 32768) (d : Fin 1024) :
    ((dats m 0 c).arrAt 5 cfg0.N : (⟨S32768x1024, .f32⟩ : BufTy).Contents (Elt Ideal)) (ix2 r d)
      = Rows.layerNorm (Rows.halfStep (fun k => m ((c : Thread nD τ).loc main_arg0) (ix2 r k)) (fun k p => m ((c : Thread nD τ).loc main_arg1) (ix3 0 k p))
          (fun p k => m ((c : Thread nD τ).loc main_arg2) (ix3 0 p k)))
          (fun k => m ((c : Thread nD τ).loc main_arg3) (ix1 k)) (fun k => m ((c : Thread nD τ).loc main_arg4) (ix1 k)) d := by
  have hr := r.isLt
  let t : Fin cfg0.N := ⟨r.val / 512, by have := points; omega⟩
  let r' : Fin 512 := ⟨r.val % 512, by omega⟩
  have hrow : ∀ h : 512 * t.val + r'.val < 32768, (⟨512 * t.val + r'.val, h⟩ : Fin 32768) = r :=
    fun h => Fin.ext (show 512 * (r.val / 512) + r.val % 512 = r.val by omega)
  obtain ⟨-, -, -, -, -, h0, h1⟩ := index_facts t
  have h := congrFun (Value.blocks5 m c t (flush0_5 t)) (ix2 r' d : S512x1024.Idx)
  rw [Value.flushed5] at h
  have hl : (((cfg0.win 5).blk t).view.emb (ix2 r' d : S512x1024.Idx) : S32768x1024.Idx) = ix2 r d := by
    funext a
    refine Fin.ext ?_
    match a with
    | ⟨0, _⟩ => show win0_5.index t 0 * 512 + 1 * r'.val = r.val; show win0_5.index t 0 * 512 + 1 * (r.val % 512) = r.val; rw [h0]; show r.val / 512 * 512 + 1 * (r.val % 512) = r.val; omega
    | ⟨1, _⟩ => show win0_5.index t 1 * 1024 + 1 * d.val = d.val; omega
  have hL : ((cfg0.win 5).blk t).view.read (Elt Ideal) ((dats m 0 c).arrAt 5 cfg0.N) (ix2 r' d : S512x1024.Idx)
      = ((dats m 0 c).arrAt 5 cfg0.N : (⟨S32768x1024, .f32⟩ : BufTy).Contents (Elt Ideal)) (ix2 r d) := by
    rw [← hl]; rfl
  refine hL.symm.trans (h.trans ?_)
  show out0_5 (iblk m c 0 t) (iblk m c 1 t) (iblk m c 2 t) (iblk m c 3 t) (iblk m c 4 t) (ix2 r' d) = _
  rw [out_apply]
  simp only [blk0_apply, blk1_apply, blk2_apply, blk3_apply, blk4_apply, hrow]

end Cert.Kernel2Ideal.Ffn

end
-- ==== Proof.FfnRef.lean ====
/-
  The feed-forward reference, read at a token and a column: the layer norm of the token's half step.
-/
module

public import proofs.«01_k».proof.Proof.Gen.Reference2Ideal.Read
public import proofs.«01_k».proof.Proof.Rows

@[expose] public section

set_option maxRecDepth 16384

noncomputable section

open Idealize.ShloMosaic

namespace Cert.Reference2Ideal.Ffn

open Cert.Reference2Ideal Cert.Reference2Ideal.Gen Cert.Reference2Ideal.Read

variable (x : (⟨S32768x1024, .f32⟩ : BufTy).Contents (Elt Ideal)) (w : (⟨S4x1024x5632, .f32⟩ : BufTy).Contents (Elt Ideal))
  (w' : (⟨S4x2816x1024, .f32⟩ : BufTy).Contents (Elt Ideal)) (g b : (⟨S1024, .f32⟩ : BufTy).Contents (Elt Ideal))

/-- The residual stream before its norm is the token's half step. -/
theorem pre_apply (r : Fin 32768) (d : Fin 1024) :
    val_main_v14 (F := Ideal) x w w' (ix2 r d)
      = Rows.halfStep (fun k => x (ix2 r k)) (fun k p => w (ix3 0 k p)) (fun p k => w' (ix3 0 p k)) d := by
  pointwise [val_main_v14, val_main_v13, val_main_v12, val_main_cst_0, val_main_v11, val_main_v10, val_main_v9, val_main_call0_v5,
    val_main_call0_v4, val_main_call0_cst_0, val_main_call0_v3, val_main_call0_v2, val_main_call0_cst, val_main_call0_v1,
    val_main_call0_v0, val_main_v8, val_main_v7, val_main_v6, val_main_v5, val_main_v4, val_main_v3, val_main_v2, val_main_v1,
    val_main_v0, val_main_cst, Rows.halfStep, Rows.hidden, Ideal.logistic]

/-- The reference's result is the layer norm of the half step. -/
theorem result_apply (r : Fin 32768) (d : Fin 1024) :
    val_main_v38 (F := Ideal) x w w' g b (ix2 r d)
      = Rows.layerNorm (Rows.halfStep (fun k => x (ix2 r k)) (fun k p => w (ix3 0 k p)) (fun p k => w' (ix3 0 p k)))
          (fun k => g (ix1 k)) (fun k => b (ix1 k)) d := by
  have h := pre_apply x w w' r
  generalize hz : val_main_v14 (F := Ideal) x w w' = z at h
  simp only [val_main_v38, val_main_v37, val_main_v36, val_main_v35, val_main_v34, val_main_v33, val_main_v32, val_main_v31, val_main_v30,
    val_main_v29, val_main_v28, val_main_cst_5, val_main_v27, val_main_v26, val_main_v25, val_main_v24, val_main_cst_4, val_main_v23,
    val_main_v22, val_main_cst_3, val_main_v21, val_main_v20, val_main_v19, val_main_v18, val_main_v17, val_main_cst_2, val_main_v16,
    val_main_v15, val_main_cst_1, hz]
  pointwise [Rows.layerNorm, Rows.mean, h]

end Cert.Reference2Ideal.Ffn

end
-- ==== Proof.FfnClaim.lean ====
/-
  The feed-forward half step: the kernel's result array and the reference's result are the same function of the five
  arguments, so both programs end with the same value.
-/
module

public import proofs.«01_k».proof.Proof.FfnArray
public import proofs.«01_k».proof.Proof.FfnRef
public import proofs.«01_k».proof.Proof.Gen.Kernel2Ideal.Value
public import proofs.«01_k».proof.Proof.Gen.Reference2Ideal.Run
public import proofs.«01_k».proof.Proof.Gen.Reference2Ideal.Read
public import proofs.«01_k».proof.Defs

@[expose] public section

set_option maxRecDepth 16384

noncomputable section

open Idealize.ShloMosaic Idealize.SL.Sem Idealize.ShloMosaic.TcCoe

namespace Cert.Ffn

/-- The reference's result on a device is the kernel's result array there, from equal arguments. -/
theorem result_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4)) :
    (Reference2Ideal.Value.res_main_v38 m' c : Vec Ideal Reference2Ideal.S32768x1024 .f32)
      = ((Kernel2Ideal.Gen.dats m 0 c).arrAt 5 Kernel2Ideal.cfg0.N : (⟨Kernel2Ideal.S32768x1024, .f32⟩ : BufTy).Contents (Elt Ideal)) := by
  rw [Reference2Ideal.Read.val_main_v38_eq, h0, h1, h2, h3, h4]
  funext i
  rw [ValueIdx.eq_ix2 i]
  exact (Reference2Ideal.Ffn.result_apply _ _ _ _ _ _ _).trans (Kernel2Ideal.Ffn.array_apply m c _ _).symm

/-- The half step's kernel and reference end with equal results from equal arguments. -/
theorem algebraic : algebraic_Kernel2Ideal_Reference2Ideal := by
  intro m g m' g' _ h
  refine ⟨fun c => (Kernel2Ideal.Gen.dats m 0 c).arrAt 5 Kernel2Ideal.cfg0.N, Kernel2Ideal.Value.run_blocks m g, ?_⟩
  refine (θ_run Reference2Ideal.defs _ _).mono (fun r hr c => ?_) (Reference2Ideal.Value.run (F := Ideal) m' g')
  obtain ⟨h0, h1, h2, h3, h4⟩ := h c
  exact ⟨(hr c).1.trans (result_eq m m' c h0 h1 h2 h3 h4), (hr c).2⟩

end Cert.Ffn

end
-- ==== Proof.MemKv.lean ====
/-
  The memory's keys and values: point `i` of the kernel's grid leaves layer `i`'s product of the memory's rows with the
  layer's weights, and the reference's one product over all layers is the same array.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.StableHlo.Run
public import Idealize.ShloMosaic.Lib.Pointwise

@[expose] public section

set_option maxRecDepth 16384

noncomputable section

open Idealize.ShloMosaic Idealize.SL.Sem Idealize.ShloMosaic.TcCoe

namespace Cert.Kernel3Ideal.MemKv

open Cert.Kernel3Ideal Cert.Kernel3Ideal.Gen

/-- The memory's tokens of all batches as rows: row `r` is token `r % 256` of batch `r / 256`. -/
def rows (x : FVec Ideal S8x256x1024 .f32) : FVec Ideal S2048x1024 .f32 := shapeCast S2048x1024 x shapeCasts_S8x256x1024_S2048x1024

/-- Layer `i`'s keys and values of row `r` at column `n`: the row's product with the column of the layer's weights. -/
def keyValue (x : FVec Ideal S8x256x1024 .f32) (w : FVec Ideal S4x1024x1024 .f32) (i : Fin 4) (r : Fin 2048) (n : Fin 1024) : EReal :=
  ∑ k : Fin 1024, rows x (ix2 r k) * w (ix3 i k n)

theorem hz2 : (![0, 0] : Fin 2 → Nat) = fun _ => 0 := funext fun a => by fin_cases a <;> rfl
theorem hz3 : (![0, 0, 0] : Fin 3 → Nat) = fun _ => 0 := funext fun a => by fin_cases a <;> rfl

/-- What a point leaves in its block at a row and a column: the product of its row and its column. -/
theorem out_apply (x0 : Vec Ideal S2048x1024 .bf16) (x1 : Vec Ideal S1x1024x1024 .bf16) (r : Fin 2048) (n : Fin 1024) :
    out0_2 x0 x1 (ix3 0 r n) = ∑ k : Fin 1024, x0 (ix2 r k) * x1 (ix3 0 k n) := by
  have e0 : (View.ld x0 r0_0 : Vec Ideal S2048x1024 .bf16) = x0 := View.ld_unit_zero hz2 _ x0
  have e1 : (View.ld x1 r0_1 : Vec Ideal S1x1024x1024 .bf16) = x1 := View.ld_unit_zero hz3 _ x1
  unfold out0_2
  rw [View.canon_unit_zero hz3, e0, e1]
  pointwise [k0_pay1]

variable (m : (ℓ : Loc nD τ sig) → Buf (Elt Ideal) ℓ) (c : Dev nD)

/-- The rows as the kernel is handed them. -/
theorem rows_eq : (V m c main_v1 : Vec Ideal S2048x1024 .bf16) = rows (m ((c : Thread nD τ).loc main_arg0)) := by
  show StableHlo.after hostOps0 _ (Proc.devRef .tc main_v1) = _
  after_results
  rfl

/-- The weights as the kernel is handed them. -/
theorem weights_eq : (V m c main_v2 : Vec Ideal S4x1024x1024 .bf16) = m ((c : Thread nD τ).loc main_arg1) := by
  show StableHlo.after hostOps0 _ (Proc.devRef .tc main_v2) = _
  after_results
  rfl

/-- Which block each window reads or writes at a point: the rows' window stays, the layers' windows move with the point. -/
theorem index_facts : ∀ t : Fin cfg0.N, (win0_0.index t 0 = 0 ∧ win0_0.index t 1 = 0) ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, (win0_0.index t 0 = 0 ∧ win0_0.index t 1 = 0) ∧ (win0_1.index t 0 = t.val ∧ win0_1.index t 1 = 0 ∧ win0_1.index t 2 = 0)
    ∧ (win0_2.index t 0 = t.val ∧ win0_2.index t 1 = 0 ∧ win0_2.index t 2 = 0))

/-- The number of points. -/
theorem points : cfg0.N = 4 := rfl

/-- Every point's rows are all the memory's rows. -/
theorem blk0_apply (t : Fin cfg0.N) (r : Fin 2048) (k : Fin 1024) :
    (iblk m c 0 t : Vec Ideal S2048x1024 .bf16) (ix2 r k) = rows (m ((c : Thread nD τ).loc main_arg0)) (ix2 r k) := by
  obtain ⟨⟨h0, h1⟩, -⟩ := index_facts t
  rw [← rows_eq m c]
  show V m c main_v1 _ = V m c main_v1 _
  refine congrArg (V m c main_v1) (funext fun a => Fin.ext ?_)
  match a with
  | ⟨0, _⟩ => show win0_0.index t 0 * 2048 + 1 * r.val = r.val; omega
  | ⟨1, _⟩ => show win0_0.index t 1 * 1024 + 1 * k.val = k.val; omega

/-- Point `t`'s weights are layer `t` of the argument. -/
theorem blk1_apply (t : Fin cfg0.N) (k n : Fin 1024) :
    (iblk m c 1 t : Vec Ideal S1x1024x1024 .bf16) (ix3 0 k n) = (m ((c : Thread nD τ).loc main_arg1) : FVec Ideal S4x1024x1024 .f32) (ix3 t k n) := by
  obtain ⟨-, ⟨h0, h1, h2⟩, -⟩ := index_facts t
  refine Eq.trans ?_ (congrFun (weights_eq m c) (ix3 t k n))
  show V m c main_v2 _ = V m c main_v2 _
  refine congrArg (V m c main_v2) (funext fun a => Fin.ext ?_)
  match a with
  | ⟨0, _⟩ => show win0_1.index t 0 * 1 + 1 * 0 = t.val; omega
  | ⟨1, _⟩ => show win0_1.index t 1 * 1024 + 1 * k.val = k.val; omega
  | ⟨2, _⟩ => show win0_1.index t 2 * 1024 + 1 * n.val = n.val; omega

/-- The result array, at a layer, a row and a column. -/
theorem array_apply (t : Fin cfg0.N) (r : Fin 2048) (n : Fin 1024) :
    ((dats m 0 c).arrAt 2 cfg0.N : (⟨S4x2048x1024, .bf16⟩ : BufTy).Contents (Elt Ideal)) (ix3 t r n)
      = keyValue (m ((c : Thread nD τ).loc main_arg0)) (m ((c : Thread nD τ).loc main_arg1)) t r n := by
  obtain ⟨-, -, h0, h1, h2⟩ := index_facts t
  have h := congrFun (Value.blocks2 m c t (flush0_2 t)) (ix3 0 r n : S1x2048x1024.Idx)
  rw [Value.flushed2] at h
  have hl : (((cfg0.win 2).blk t).view.emb (ix3 0 r n : S1x2048x1024.Idx) : S4x2048x1024.Idx) = ix3 t r n := by
    funext a
    refine Fin.ext ?_
    match a with
    | ⟨0, _⟩ => show win0_2.index t 0 * 1 + 1 * 0 = t.val; omega
    | ⟨1, _⟩ => show win0_2.index t 1 * 2048 + 1 * r.val = r.val; omega
    | ⟨2, _⟩ => show win0_2.index t 2 * 1024 + 1 * n.val = n.val; omega
  have hL : ((cfg0.win 2).blk t).view.read (Elt Ideal) ((dats m 0 c).arrAt 2 cfg0.N) (ix3 0 r n : S1x2048x1024.Idx)
      = ((dats m 0 c).arrAt 2 cfg0.N : (⟨S4x2048x1024, .bf16⟩ : BufTy).Contents (Elt Ideal)) (ix3 t r n) :=
    congrArg ((dats m 0 c).arrAt 2 cfg0.N : (⟨S4x2048x1024, .bf16⟩ : BufTy).Contents (Elt Ideal)) hl
  refine hL.symm.trans (h.trans ?_)
  show out0_2 (iblk m c 0 t) (iblk m c 1 t) (ix3 0 r n) = _
  rw [out_apply]
  exact Finset.sum_congr rfl fun k _ => congrArg₂ (· * ·) (blk0_apply m c t r k) (blk1_apply m c t k n)

end Cert.Kernel3Ideal.MemKv

namespace Cert.MemKv

open Cert.Reference3Ideal.Read

/-- The reference's result, at a layer, a row and a column. -/
theorem result_apply (x : FVec Ideal Kernel3Ideal.S8x256x1024 .f32) (w : FVec Ideal Kernel3Ideal.S4x1024x1024 .f32) (t : Fin 4) (r : Fin 2048) (n : Fin 1024) :
    val_main_v3 (F := Ideal) x w (ix3 t r n) = Kernel3Ideal.MemKv.keyValue x w t r n := by
  rw [val_main_v3_apply, val_main_v2_apply]
  refine (val_main_v1_apply x w _).trans (Finset.sum_congr rfl fun k _ => ?_)
  refine (mul_comm _ _).trans (congrArg₂ (· * ·) (congrArg (Kernel3Ideal.MemKv.rows x) ?_) (congrArg w ?_))
  · funext a
    match a with
    | ⟨0, _⟩ => rfl
    | ⟨1, _⟩ => rfl
  · funext a
    match a with
    | ⟨0, _⟩ => rfl
    | ⟨1, _⟩ => rfl
    | ⟨2, _⟩ => rfl

/-- The kernel of the memory's keys and values and its reference end with equal results from equal arguments. -/
theorem algebraic : algebraic_Kernel3Ideal_Reference3Ideal := by
  intro m g m' g' _ h
  refine ⟨fun c => (Kernel3Ideal.Gen.dats m 0 c).arrAt 2 Kernel3Ideal.cfg0.N, Kernel3Ideal.Value.run_blocks m g, ?_⟩
  refine (θ_run Reference3Ideal.defs _ _).mono (fun r hr c => ⟨(hr c).1.trans ?_, (hr c).2⟩) (Reference3Ideal.Value.run (F := Ideal) m' g')
  obtain ⟨h0, h1⟩ := h c
  refine (val_main_v3_eq (F := Ideal) _ _).trans ?_
  rw [h0, h1]
  funext i
  rw [ValueIdx.eq_ix3 i]
  exact (result_apply _ _ _ _ _).trans (Kernel3Ideal.MemKv.array_apply m c _ _ _).symm

end Cert.MemKv

end
-- ==== Proof.lean ====
/-
  The certificate: every claim of the statement from its module.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.KernelIdeal.Value
public import proofs.«01_k».proof.Proof.Gen.ReferenceIdeal.Step
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Pre_finite
public import proofs.«01_k».proof.Proof.GlaClaim
public import proofs.«01_k».proof.Proof.FfnClaim
public import proofs.«01_k».proof.Proof.MemKv
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The mixer's reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The half step's reference ends with its arguments unchanged; it has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the memory's keys and values ends with its arguments unchanged; it has no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- All the claims together. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    trivial, Cert.Gla.algebraic, trivial, Cert.Ffn.algebraic, trivial, Cert.MemKv.algebraic⟩

end Cert.Proof

end
